-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 1024, 1024]⟩ ⟨5, ![2, 2, 4, 1024, 1024]⟩ (Layout.meshBlock [2, 2, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x1024x1024 : Shape := ⟨5, ![1, 1, 1, 1024, 1024]⟩
abbrev S1024x1024 : Shape := ⟨2, ![1024, 1024]⟩
abbrev S1024x512 : Shape := ⟨2, ![1024, 512]⟩
abbrev S20 : Shape := ⟨1, ![20]⟩
abbrev S_ : Shape := ⟨0, ![]⟩
abbrev S1 : Shape := ⟨1, ![1]⟩
abbrev S256x512 : Shape := ⟨2, ![256, 512]⟩
abbrev S512x512 : Shape := ⟨2, ![512, 512]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x1x1x1024x1024, .bf16⟩
  | .hbm, ⟨1, _⟩ => ⟨S1024x1024, .bf16⟩
  | .local _ .vmem, ⟨0, _⟩ => ⟨S1x1x1x1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | _, _ => ⟨S1x1x1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_18 : BitVec 32 := 8#32
  let v29 : BitVec 32 := Scalar.muli v11 c8_i32_18
  let v30 : BitVec 32 := Scalar.addi c0_i32 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v31 : BitVec 32 := Scalar.muli v5 c4_i32_19
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v33 : BitVec 32 := Scalar.muli v8 c1_i32_20
  let v34 : BitVec 32 := Scalar.addi v32 v33
  v34.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v35 : BitVec 32 := Scalar.muli v2 c8_i32_22
  let v36 : BitVec 32 := Scalar.addi c0_i32_23 v35
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_24 : BitVec 32 := 4#32
  let v37 : BitVec 32 := Scalar.muli v15 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_28 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_9 v2
  let c8_i32_27 : BitVec 32 := 8#32
  let v41 : BitVec 32 := Scalar.muli v19 c8_i32_27
  let v42 : BitVec 32 := Scalar.addi c0_i32_28 v41
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let c4_i32_29 : BitVec 32 := 4#32
  let v43 : BitVec 32 := Scalar.muli v20 c4_i32_29
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v45 : BitVec 32 := Scalar.muli v8 c1_i32_30
  let v46 : BitVec 32 := Scalar.addi v44 v45
  v46.toNat
def k0_dev4 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v47 : BitVec 32 := Scalar.muli v2 c8_i32_32
  let v48 : BitVec 32 := Scalar.addi c0_i32_33 v47
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v49 : BitVec 32 := Scalar.muli v5 c4_i32_34
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.xori v8 c1_i32_14
  let c1_i32_35 : BitVec 32 := 1#32
  let v51 : BitVec 32 := Scalar.muli v25 c1_i32_35
  let v52 : BitVec 32 := Scalar.addi v50 v51
  v52.toNat
def k0_dev5 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v53 : BitVec 32 := Scalar.muli v2 c8_i32_37
  let v54 : BitVec 32 := Scalar.addi c0_i32_38 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v55 : BitVec 32 := Scalar.muli v5 c4_i32_39
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v27 : BitVec 32 := Scalar.xori v8 c2_i32_16
  let c1_i32_40 : BitVec 32 := 1#32
  let v57 : BitVec 32 := Scalar.muli v27 c1_i32_40
  let v58 : BitVec 32 := Scalar.addi v56 v57
  v58.toNat
def k0_off1 (d0 : Dev nD) : Fin 2 → Nat :=
  let c0_i32_47 : BitVec 32 := 0#32
  let c2_i32_5 : BitVec 32 := 2#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.addi v13 v5
  let c256_i32 : BitVec 32 := 256#32
  let v63 : BitVec 32 := Scalar.muli v14 c256_i32
  let v64 : BitVec 32 := Scalar.addi c0_i32_47 v63
  let c0_i32_56 : BitVec 32 := 0#32
  ![v64.toNat, 0]
def k0_dev6 (d0 : Dev nD) : Nat :=
  let c0_i32_51 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_50 : BitVec 32 := 8#32
  let v65 : BitVec 32 := Scalar.muli v11 c8_i32_50
  let v66 : BitVec 32 := Scalar.addi c0_i32_51 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v67 : BitVec 32 := Scalar.muli v5 c4_i32_52
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v69 : BitVec 32 := Scalar.muli v8 c1_i32_53
  let v70 : BitVec 32 := Scalar.addi v68 v69
  v70.toNat
def k0_off2 (d0 : Dev nD) : Fin 2 → Nat :=
  let c0_i32_58 : BitVec 32 := 0#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.addi v16 v17
  let c256_i32_57 : BitVec 32 := 256#32
  let v77 : BitVec 32 := Scalar.muli v18 c256_i32_57
  let v78 : BitVec 32 := Scalar.addi c0_i32_58 v77
  let c0_i32_67 : BitVec 32 := 0#32
  ![v78.toNat, 0]
def k0_dev7 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v79 : BitVec 32 := Scalar.muli v2 c8_i32_61
  let v80 : BitVec 32 := Scalar.addi c0_i32_62 v79
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_63 : BitVec 32 := 4#32
  let v81 : BitVec 32 := Scalar.muli v15 c4_i32_63
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v83 : BitVec 32 := Scalar.muli v8 c1_i32_64
  let v84 : BitVec 32 := Scalar.addi v82 v83
  v84.toNat
def k0_off3 (d0 : Dev nD) : Fin 2 → Nat :=
  let c0_i32_69 : BitVec 32 := 0#32
  let c2_i32_12 : BitVec 32 := 2#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_11 v2
  let v22 : BitVec 32 := Scalar.muli c2_i32_12 v21
  let c1_i32_13 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_13 v5
  let v24 : BitVec 32 := Scalar.addi v22 v23
  let c256_i32_68 : BitVec 32 := 256#32
  let v91 : BitVec 32 := Scalar.muli v24 c256_i32_68
  let v92 : BitVec 32 := Scalar.addi c0_i32_69 v91
  let c0_i32_77 : BitVec 32 := 0#32
  ![v92.toNat, 0]
def k0_dev8 (d0 : Dev nD) : Nat :=
  let c0_i32_73 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_9 v2
  let c8_i32_72 : BitVec 32 := 8#32
  let v93 : BitVec 32 := Scalar.muli v19 c8_i32_72
  let v94 : BitVec 32 := Scalar.addi c0_i32_73 v93
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let c4_i32_74 : BitVec 32 := 4#32
  let v95 : BitVec 32 := Scalar.muli v20 c4_i32_74
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v97 : BitVec 32 := Scalar.muli v8 c1_i32_75
  let v98 : BitVec 32 := Scalar.addi v96 v97
  v98.toNat
def k0_off4 (d0 : Dev nD) : Fin 2 → Nat :=
  let c0_i32_80 : BitVec 32 := 0#32
  let c1_i32_78 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let v105 : BitVec 32 := Scalar.subi c1_i32_78 v26
  let c512_i32_79 : BitVec 32 := 512#32
  let v106 : BitVec 32 := Scalar.muli v105 c512_i32_79
  let v107 : BitVec 32 := Scalar.addi c0_i32_80 v106
  let c512_i32_88 : BitVec 32 := 512#32
  ![v107.toNat, 512]
def k0_dev9 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v108 : BitVec 32 := Scalar.muli v2 c8_i32_82
  let v109 : BitVec 32 := Scalar.addi c0_i32_83 v108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v110 : BitVec 32 := Scalar.muli v5 c4_i32_84
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.xori v8 c1_i32_14
  let c1_i32_85 : BitVec 32 := 1#32
  let v112 : BitVec 32 := Scalar.muli v25 c1_i32_85
  let v113 : BitVec 32 := Scalar.addi v111 v112
  v113.toNat
def k0_off5 (d0 : Dev nD) : Fin 2 → Nat :=
  let c0_i32_135 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_134 : BitVec 32 := 256#32
  let v162 : BitVec 32 := Scalar.muli v10 c256_i32_134
  let v163 : BitVec 32 := Scalar.addi c0_i32_135 v162
  let v164 : Index := Scalar.indexCast v163
  let c0_136 : Index := 0#32
  ![v164.toNat, 0]
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c512_i32_142 : BitVec 32 := 512#32
  let v175 : BitVec 32 := Scalar.muli v26 c512_i32_142
  let v190 : Index := Scalar.indexCast v175
  let c512_158 : Index := 512#32
  ![v190.toNat, 512]
def k0_off7 (d0 : Dev nD) : Fin 2 → Nat :=
  let c0_i32_135 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_134 : BitVec 32 := 256#32
  let v162 : BitVec 32 := Scalar.muli v10 c256_i32_134
  let v163 : BitVec 32 := Scalar.addi c0_i32_135 v162
  let c1_i32_162 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let v197 : BitVec 32 := Scalar.subi c1_i32_162 v26
  let c128_i32 : BitVec 32 := 128#32
  let v198 : BitVec 32 := Scalar.muli v197 c128_i32
  let v199 : BitVec 32 := Scalar.addi v163 v198
  let c0_i32_169 : BitVec 32 := 0#32
  ![v199.toNat, 0]
def k0_dev10 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v200 : BitVec 32 := Scalar.muli v2 c8_i32_164
  let v201 : BitVec 32 := Scalar.addi c0_i32_165 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_166 : BitVec 32 := 4#32
  let v202 : BitVec 32 := Scalar.muli v5 c4_i32_166
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.xori v8 c1_i32_14
  let c1_i32_167 : BitVec 32 := 1#32
  let v204 : BitVec 32 := Scalar.muli v25 c1_i32_167
  let v205 : BitVec 32 := Scalar.addi v203 v204
  v205.toNat
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c512_i32_142 : BitVec 32 := 512#32
  let v175 : BitVec 32 := Scalar.muli v26 c512_i32_142
  let c2_i32_5 : BitVec 32 := 2#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.addi v13 v5
  let c128_i32_170 : BitVec 32 := 128#32
  let v212 : BitVec 32 := Scalar.muli v14 c128_i32_170
  let v213 : BitVec 32 := Scalar.addi v175 v212
  let c512_i32_178 : BitVec 32 := 512#32
  ![v213.toNat, 512]
def k0_dev11 (d0 : Dev nD) : Nat :=
  let c0_i32_173 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_172 : BitVec 32 := 8#32
  let v214 : BitVec 32 := Scalar.muli v11 c8_i32_172
  let v215 : BitVec 32 := Scalar.addi c0_i32_173 v214
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v216 : BitVec 32 := Scalar.muli v5 c4_i32_174
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v218 : BitVec 32 := Scalar.muli v8 c1_i32_175
  let v219 : BitVec 32 := Scalar.addi v217 v218
  v219.toNat
def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c512_i32_142 : BitVec 32 := 512#32
  let v175 : BitVec 32 := Scalar.muli v26 c512_i32_142
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.addi v16 v17
  let c128_i32_179 : BitVec 32 := 128#32
  let v226 : BitVec 32 := Scalar.muli v18 c128_i32_179
  let v227 : BitVec 32 := Scalar.addi v175 v226
  let c512_i32_186 : BitVec 32 := 512#32
  ![v227.toNat, 512]
def k0_dev12 (d0 : Dev nD) : Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_181 : BitVec 32 := 8#32
  let v228 : BitVec 32 := Scalar.muli v2 c8_i32_181
  let v229 : BitVec 32 := Scalar.addi c0_i32_182 v228
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_183 : BitVec 32 := 4#32
  let v230 : BitVec 32 := Scalar.muli v15 c4_i32_183
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v232 : BitVec 32 := Scalar.muli v8 c1_i32_184
  let v233 : BitVec 32 := Scalar.addi v231 v232
  v233.toNat
def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c512_i32_142 : BitVec 32 := 512#32
  let v175 : BitVec 32 := Scalar.muli v26 c512_i32_142
  let c2_i32_12 : BitVec 32 := 2#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_11 v2
  let v22 : BitVec 32 := Scalar.muli c2_i32_12 v21
  let c1_i32_13 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_13 v5
  let v24 : BitVec 32 := Scalar.addi v22 v23
  let c128_i32_187 : BitVec 32 := 128#32
  let v240 : BitVec 32 := Scalar.muli v24 c128_i32_187
  let v241 : BitVec 32 := Scalar.addi v175 v240
  let c512_i32_195 : BitVec 32 := 512#32
  ![v241.toNat, 512]
def k0_dev13 (d0 : Dev nD) : Nat :=
  let c0_i32_190 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_9 v2
  let c8_i32_189 : BitVec 32 := 8#32
  let v242 : BitVec 32 := Scalar.muli v19 c8_i32_189
  let v243 : BitVec 32 := Scalar.addi c0_i32_190 v242
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let c4_i32_191 : BitVec 32 := 4#32
  let v244 : BitVec 32 := Scalar.muli v20 c4_i32_191
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v246 : BitVec 32 := Scalar.muli v8 c1_i32_192
  let v247 : BitVec 32 := Scalar.addi v245 v246
  v247.toNat
def k0_off11 (d0 : Dev nD) : Fin 2 → Nat :=
  let c0_i32_135 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_134 : BitVec 32 := 256#32
  let v162 : BitVec 32 := Scalar.muli v10 c256_i32_134
  let v163 : BitVec 32 := Scalar.addi c0_i32_135 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c128_i32_196 : BitVec 32 := 128#32
  let v254 : BitVec 32 := Scalar.muli v26 c128_i32_196
  let v255 : BitVec 32 := Scalar.addi v163 v254
  let v270 : Index := Scalar.indexCast v255
  let c0_212 : Index := 0#32
  ![v270.toNat, 0]
def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c512_i32_142 : BitVec 32 := 512#32
  let v175 : BitVec 32 := Scalar.muli v26 c512_i32_142
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_260 : BitVec 32 := 128#32
  let v319 : BitVec 32 := Scalar.muli v10 c128_i32_260
  let v320 : BitVec 32 := Scalar.addi v175 v319
  let v321 : Index := Scalar.indexCast v320
  let c512_261 : Index := 512#32
  ![v321.toNat, 512]
def k0_off13 (d0 : Dev nD) : Fin 2 → Nat :=
  let c0_i32_135 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_134 : BitVec 32 := 256#32
  let v162 : BitVec 32 := Scalar.muli v10 c256_i32_134
  let v163 : BitVec 32 := Scalar.addi c0_i32_135 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c128_i32_196 : BitVec 32 := 128#32
  let v254 : BitVec 32 := Scalar.muli v26 c128_i32_196
  let v255 : BitVec 32 := Scalar.addi v163 v254
  let c0_i32_275 : BitVec 32 := 0#32
  ![v255.toNat, 0]
def k0_dev14 (d0 : Dev nD) : Nat :=
  let c0_i32_271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_270 : BitVec 32 := 8#32
  let v332 : BitVec 32 := Scalar.muli v2 c8_i32_270
  let v333 : BitVec 32 := Scalar.addi c0_i32_271 v332
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_272 : BitVec 32 := 4#32
  let v334 : BitVec 32 := Scalar.muli v5 c4_i32_272
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v27 : BitVec 32 := Scalar.xori v8 c2_i32_16
  let c1_i32_273 : BitVec 32 := 1#32
  let v336 : BitVec 32 := Scalar.muli v27 c1_i32_273
  let v337 : BitVec 32 := Scalar.addi v335 v336
  v337.toNat
def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c512_i32_142 : BitVec 32 := 512#32
  let v175 : BitVec 32 := Scalar.muli v26 c512_i32_142
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_260 : BitVec 32 := 128#32
  let v319 : BitVec 32 := Scalar.muli v10 c128_i32_260
  let v320 : BitVec 32 := Scalar.addi v175 v319
  let c512_i32_283 : BitVec 32 := 512#32
  ![v320.toNat, 512]
def k0_dev15 (d0 : Dev nD) : Nat :=
  let c0_i32_278 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_277 : BitVec 32 := 8#32
  let v344 : BitVec 32 := Scalar.muli v2 c8_i32_277
  let v345 : BitVec 32 := Scalar.addi c0_i32_278 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_279 : BitVec 32 := 4#32
  let v346 : BitVec 32 := Scalar.muli v5 c4_i32_279
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v27 : BitVec 32 := Scalar.xori v8 c2_i32_16
  let c1_i32_280 : BitVec 32 := 1#32
  let v348 : BitVec 32 := Scalar.muli v27 c1_i32_280
  let v349 : BitVec 32 := Scalar.addi v347 v348
  v349.toNat
def k0_dev16 (d0 : Dev nD) : Nat :=
  let c0_i32_324 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_323 : BitVec 32 := 8#32
  let v398 : BitVec 32 := Scalar.muli v2 c8_i32_323
  let v399 : BitVec 32 := Scalar.addi c0_i32_324 v398
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_325 : BitVec 32 := 4#32
  let v400 : BitVec 32 := Scalar.muli v5 c4_i32_325
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.xori v8 c1_i32_14
  let c1_i32_326 : BitVec 32 := 1#32
  let v402 : BitVec 32 := Scalar.muli v25 c1_i32_326
  let v403 : BitVec 32 := Scalar.addi v401 v402
  v403.toNat
def k0_dev17 (d0 : Dev nD) : Nat :=
  let c0_i32_331 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_330 : BitVec 32 := 8#32
  let v410 : BitVec 32 := Scalar.muli v11 c8_i32_330
  let v411 : BitVec 32 := Scalar.addi c0_i32_331 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_332 : BitVec 32 := 4#32
  let v412 : BitVec 32 := Scalar.muli v5 c4_i32_332
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v414 : BitVec 32 := Scalar.muli v8 c1_i32_333
  let v415 : BitVec 32 := Scalar.addi v413 v414
  v415.toNat
def k0_dev18 (d0 : Dev nD) : Nat :=
  let c0_i32_338 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_337 : BitVec 32 := 8#32
  let v422 : BitVec 32 := Scalar.muli v2 c8_i32_337
  let v423 : BitVec 32 := Scalar.addi c0_i32_338 v422
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_339 : BitVec 32 := 4#32
  let v424 : BitVec 32 := Scalar.muli v15 c4_i32_339
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v426 : BitVec 32 := Scalar.muli v8 c1_i32_340
  let v427 : BitVec 32 := Scalar.addi v425 v426
  v427.toNat
def k0_dev19 (d0 : Dev nD) : Nat :=
  let c0_i32_345 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_9 v2
  let c8_i32_344 : BitVec 32 := 8#32
  let v434 : BitVec 32 := Scalar.muli v19 c8_i32_344
  let v435 : BitVec 32 := Scalar.addi c0_i32_345 v434
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let c4_i32_346 : BitVec 32 := 4#32
  let v436 : BitVec 32 := Scalar.muli v20 c4_i32_346
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v438 : BitVec 32 := Scalar.muli v8 c1_i32_347
  let v439 : BitVec 32 := Scalar.addi v437 v438
  v439.toNat
def k0_off15 (d0 : Dev nD) : Fin 2 → Nat :=
  let c0_i32_135 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_134 : BitVec 32 := 256#32
  let v162 : BitVec 32 := Scalar.muli v10 c256_i32_134
  let v163 : BitVec 32 := Scalar.addi c0_i32_135 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c128_i32_196 : BitVec 32 := 128#32
  let v254 : BitVec 32 := Scalar.muli v26 c128_i32_196
  let v255 : BitVec 32 := Scalar.addi v163 v254
  let c128_i32_402 : BitVec 32 := 128#32
  let v502 : BitVec 32 := Scalar.muli v26 c128_i32_402
  let v503 : BitVec 32 := Scalar.subi v255 v502
  let c0_i32_409 : BitVec 32 := 0#32
  ![v503.toNat, 0]
def k0_dev20 (d0 : Dev nD) : Nat :=
  let c0_i32_406 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c8_i32_405 : BitVec 32 := 8#32
  let v506 : BitVec 32 := Scalar.muli v11 c8_i32_405
  let v507 : BitVec 32 := Scalar.addi c0_i32_406 v506
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_407 : BitVec 32 := 4#32
  let v508 : BitVec 32 := Scalar.muli v5 c4_i32_407
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v510 : BitVec 32 := Scalar.muli v8 c1_i32_408
  let v511 : BitVec 32 := Scalar.addi v509 v510
  v511.toNat
def k0_dev21 (d0 : Dev nD) : Nat :=
  let c0_i32_413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_412 : BitVec 32 := 8#32
  let v518 : BitVec 32 := Scalar.muli v2 c8_i32_412
  let v519 : BitVec 32 := Scalar.addi c0_i32_413 v518
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c4_i32_414 : BitVec 32 := 4#32
  let v520 : BitVec 32 := Scalar.muli v15 c4_i32_414
  let v521 : BitVec 32 := Scalar.addi v519 v520
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v522 : BitVec 32 := Scalar.muli v8 c1_i32_415
  let v523 : BitVec 32 := Scalar.addi v521 v522
  v523.toNat
def k0_dev22 (d0 : Dev nD) : Nat :=
  let c0_i32_421 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_9 v2
  let c8_i32_420 : BitVec 32 := 8#32
  let v530 : BitVec 32 := Scalar.muli v19 c8_i32_420
  let v531 : BitVec 32 := Scalar.addi c0_i32_421 v530
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_10 v5
  let c4_i32_422 : BitVec 32 := 4#32
  let v532 : BitVec 32 := Scalar.muli v20 c4_i32_422
  let v533 : BitVec 32 := Scalar.addi v531 v532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v534 : BitVec 32 := Scalar.muli v8 c1_i32_423
  let v535 : BitVec 32 := Scalar.addi v533 v534
  v535.toNat
def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.andi v8 c1_i32_15
  let c512_i32_142 : BitVec 32 := 512#32
  let v175 : BitVec 32 := Scalar.muli v26 c512_i32_142
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_260 : BitVec 32 := 128#32
  let v319 : BitVec 32 := Scalar.muli v10 c128_i32_260
  let v320 : BitVec 32 := Scalar.addi v175 v319
  let c128_i32_403 : BitVec 32 := 128#32
  let v504 : BitVec 32 := Scalar.muli v10 c128_i32_403
  let v505 : BitVec 32 := Scalar.subi v320 v504
  let c512_i32_431 : BitVec 32 := 512#32
  ![v505.toNat, 512]
def k0_dev23 (d0 : Dev nD) : Nat :=
  let c0_i32_428 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_427 : BitVec 32 := 8#32
  let v542 : BitVec 32 := Scalar.muli v2 c8_i32_427
  let v543 : BitVec 32 := Scalar.addi c0_i32_428 v542
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_429 : BitVec 32 := 4#32
  let v544 : BitVec 32 := Scalar.muli v5 c4_i32_429
  let v545 : BitVec 32 := Scalar.addi v543 v544
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.xori v8 c1_i32_14
  let c1_i32_430 : BitVec 32 := 1#32
  let v546 : BitVec 32 := Scalar.muli v25 c1_i32_430
  let v547 : BitVec 32 := Scalar.addi v545 v546
  v547.toNat
abbrev stage0_0 : Fin 1 → Memref sig .tc .vmem S1x1x1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x4x1024x1024 : Shape := ⟨5, ![2, 2, 4, 1024, 1024]⟩
abbrev S_ : Shape := ⟨0, ![]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2x4x1024x1024, .bf16⟩
  | .hbm, ⟨1, _⟩ => ⟨S2x2x4x1024x1024, .f32⟩
  | .hbm, ⟨2, _⟩ => ⟨S_, .f32⟩
  | .hbm, ⟨3, _⟩ => ⟨S1024x1024, .f32⟩
  | .hbm, ⟨4, _⟩ => ⟨S1024x1024, .bf16⟩
  | _, _ => ⟨S2x2x4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/-
The kernel of one device as a list of steps: the handshake, the copies between devices, and the additions.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.AllSum

open Cert.KernelIdeal Cert.KernelIdeal.Gen
open Idealize.ShloMosaic
open Idealize.ShloMosaic.TcCoe
open Idealize.SL.Sem

variable {F : FTy → Type} [FloatOps F]

/-- The staged argument block, the result buffer and the two landing buffers of a device. -/
abbrev xM : Memref sig .tc .vmem S1x1x1x1024x1024 .bf16 := Memref.whole cc0_stg0_0
abbrev oM : Memref sig .tc .vmem S1024x1024 .bf16 := Memref.whole cc0_stg1_0
abbrev aM : Memref sig .tc .vmem S1024x512 .bf16 := Memref.whole cc0_scratch0
abbrev bM : Memref sig .tc .vmem S1024x512 .bf16 := Memref.whole cc0_scratch1

/-- The copies one device starts. The copy `kN` uses the semaphores numbered `N`; `k0` to `k8` move
    the left half of the columns, `k10` to `k19` the right half. -/
inductive Copy where
  | k0 | k1 | k2 | k3 | k4 | k5 | k6 | k7 | k8 | k10 | k11 | k12 | k13 | k14 | k15 | k16 | k17 | k19
  deriving DecidableEq

/-- Every copy, in the order a device starts them. -/
def copies : List Copy := [.k0, .k1, .k2, .k10, .k3, .k11, .k12, .k13, .k4, .k14, .k5, .k15, .k16, .k17, .k6, .k7, .k8, .k19]

instance : Fintype Copy := ⟨copies.toFinset, fun k => by cases k <;> decide⟩

/-- The rows and columns a copy moves. -/
def sz : Copy → Fin 2 → ℕ
  | .k0 => S256x512.size
  | .k1 => S256x512.size
  | .k2 => S256x512.size
  | .k3 => S128x512.size
  | .k4 => S128x512.size
  | .k5 => S128x512.size
  | .k6 => S256x512.size
  | .k7 => S256x512.size
  | .k8 => S256x512.size
  | .k10 => S512x512.size
  | .k11 => S128x512.size
  | .k12 => S128x512.size
  | .k13 => S128x512.size
  | .k14 => S128x512.size
  | .k15 => S128x512.size
  | .k16 => S128x512.size
  | .k17 => S128x512.size
  | .k19 => S512x512.size

/-- Where in the result buffer of the device `c` that starts it a copy's source begins. -/
def off (c : Dev nD) : Copy → Fin 2 → ℕ
  | .k0 => k0_off1 c
  | .k1 => k0_off2 c
  | .k2 => k0_off3 c
  | .k3 => k0_off7 c
  | .k4 => k0_off13 c
  | .k5 => k0_off13 c
  | .k6 => k0_off15 c
  | .k7 => k0_off15 c
  | .k8 => k0_off15 c
  | .k10 => k0_off4 c
  | .k11 => k0_off8 c
  | .k12 => k0_off9 c
  | .k13 => k0_off10 c
  | .k14 => k0_off14 c
  | .k15 => k0_off14 c
  | .k16 => k0_off14 c
  | .k17 => k0_off14 c
  | .k19 => k0_off16 c

theorem off_inb (c : Dev nD) : ∀ (k : Copy) (a : Fin 2), off c k a + sz k a ≤ S1024x1024.size a
  | .k0 => k0_off1_inb c
  | .k1 => k0_off2_inb c
  | .k2 => k0_off3_inb c
  | .k3 => k0_off7_inb c
  | .k4 => k0_off13_inb c
  | .k5 => k0_off13_inb c
  | .k6 => k0_off15_inb c
  | .k7 => k0_off15_inb c
  | .k8 => k0_off15_inb c
  | .k10 => k0_off4_inb c
  | .k11 => k0_off8_inb c
  | .k12 => k0_off9_inb c
  | .k13 => k0_off10_inb c
  | .k14 => k0_off14_inb c
  | .k15 => k0_off14_inb c
  | .k16 => k0_off14_inb c
  | .k17 => k0_off14_inb c
  | .k19 => k0_off16_inb c

/-- What a copy reads on the device `c` that starts it: a piece of its result buffer. -/
def src (c : Dev nD) (k : Copy) : Memref sig .tc .vmem ⟨2, sz k⟩ .bf16 :=
  oM.slice (Rect.unit (s := S1024x1024) (off c k) (sz k) (off_inb c k)) (fun _ => rfl)

/-- Where a copy started by `c` lands: a slot of one of the other device's landing buffers, or for
    the copies that hand results back the same piece of its result buffer. -/
def dst (c : Dev nD) : (k : Copy) → Memref sig .tc .vmem ⟨2, sz k⟩ .bf16
  | .k0 => aM.slice (Rect.unit (s := S1024x512) ![0, 0] S256x512.size inb_S1024x512_S256x512_0_0) (fun _ => rfl)
  | .k1 => aM.slice (Rect.unit (s := S1024x512) ![256, 0] S256x512.size inb_S1024x512_S256x512_256_0) (fun _ => rfl)
  | .k2 => aM.slice (Rect.unit (s := S1024x512) ![512, 0] S256x512.size inb_S1024x512_S256x512_512_0) (fun _ => rfl)
  | .k3 => aM.slice (Rect.unit (s := S1024x512) ![768, 0] S128x512.size inb_S1024x512_S128x512_768_0) (fun _ => rfl)
  | .k4 => aM.slice (Rect.unit (s := S1024x512) ![896, 0] S128x512.size inb_S1024x512_S128x512_896_0) (fun _ => rfl)
  | .k5 => src c .k5
  | .k6 => src c .k6
  | .k7 => src c .k7
  | .k8 => src c .k8
  | .k10 => bM.slice (Rect.unit (s := S1024x512) ![0, 0] S512x512.size inb_S1024x512_S512x512_0_0) (fun _ => rfl)
  | .k11 => bM.slice (Rect.unit (s := S1024x512) ![512, 0] S128x512.size inb_S1024x512_S128x512_512_0) (fun _ => rfl)
  | .k12 => bM.slice (Rect.unit (s := S1024x512) ![640, 0] S128x512.size inb_S1024x512_S128x512_640_0) (fun _ => rfl)
  | .k13 => bM.slice (Rect.unit (s := S1024x512) ![768, 0] S128x512.size inb_S1024x512_S128x512_768_0) (fun _ => rfl)
  | .k14 => bM.slice (Rect.unit (s := S1024x512) ![896, 0] S128x512.size inb_S1024x512_S128x512_896_0) (fun _ => rfl)
  | .k15 => src c .k15
  | .k16 => src c .k16
  | .k17 => src c .k17
  | .k19 => src c .k19

theorem src_words (c : Dev nD) : ∀ k : Copy, (src c k).view.WordExact
  | .k0 => (Memref.isWhole_whole cc0_stg1_0).wordExact_slice rfl _ (k0_off1_wordsbf16 c)
  | .k1 => (Memref.isWhole_whole cc0_stg1_0).wordExact_slice rfl _ (k0_off2_wordsbf16 c)
  | .k2 => (Memref.isWhole_whole cc0_stg1_0).wordExact_slice rfl _ (k0_off3_wordsbf16 c)
  | .k3 => (Memref.isWhole_whole cc0_stg1_0).wordExact_slice rfl _ (k0_off7_wordsbf16 c)
  | .k4 => (Memref.isWhole_whole cc0_stg1_0).wordExact_slice rfl _ (k0_off13_wordsbf16 c)
  | .k5 => (Memref.isWhole_whole cc0_stg1_0).wordExact_slice rfl _ (k0_off13_wordsbf16 c)
  | .k6 => (Memref.isWhole_whole cc0_stg1_0).wordExact_slice rfl _ (k0_off15_wordsbf16 c)
  | .k7 => (Memref.isWhole_whole cc0_stg1_0).wordExact_slice rfl _ (k0_off15_wordsbf16 c)
  | .k8 => (Memref.isWhole_whole cc0_stg1_0).wordExact_slice rfl _ (k0_off15_wordsbf16 c)
  | .k10 => (Memref.isWhole_whole cc0_stg1_0).wordExact_slice rfl _ (k0_off4_wordsbf16 c)
  | .k11 => (Memref.isWhole_whole cc0_stg1_0).wordExact_slice rfl _ (k0_off8_wordsbf16 c)
  | .k12 => (Memref.isWhole_whole cc0_stg1_0).wordExact_slice rfl _ (k0_off9_wordsbf16 c)
  | .k13 => (Memref.isWhole_whole cc0_stg1_0).wordExact_slice rfl _ (k0_off10_wordsbf16 c)
  | .k14 => (Memref.isWhole_whole cc0_stg1_0).wordExact_slice rfl _ (k0_off14_wordsbf16 c)
  | .k15 => (Memref.isWhole_whole cc0_stg1_0).wordExact_slice rfl _ (k0_off14_wordsbf16 c)
  | .k16 => (Memref.isWhole_whole cc0_stg1_0).wordExact_slice rfl _ (k0_off14_wordsbf16 c)
  | .k17 => (Memref.isWhole_whole cc0_stg1_0).wordExact_slice rfl _ (k0_off14_wordsbf16 c)
  | .k19 => (Memref.isWhole_whole cc0_stg1_0).wordExact_slice rfl _ (k0_off16_wordsbf16 c)

theorem dst_words (c : Dev nD) : ∀ k : Copy, (dst c k).view.WordExact
  | .k0 => (Memref.isWhole_whole cc0_scratch0).wordExact_slice rfl _ wordsbf16_S1024x512_S256x512_0_0
  | .k1 => (Memref.isWhole_whole cc0_scratch0).wordExact_slice rfl _ wordsbf16_S1024x512_S256x512_256_0
  | .k2 => (Memref.isWhole_whole cc0_scratch0).wordExact_slice rfl _ wordsbf16_S1024x512_S256x512_512_0
  | .k3 => (Memref.isWhole_whole cc0_scratch0).wordExact_slice rfl _ wordsbf16_S1024x512_S128x512_768_0
  | .k4 => (Memref.isWhole_whole cc0_scratch0).wordExact_slice rfl _ wordsbf16_S1024x512_S128x512_896_0
  | .k5 => (Memref.isWhole_whole cc0_stg1_0).wordExact_slice rfl _ (k0_off13_wordsbf16 c)
  | .k6 => (Memref.isWhole_whole cc0_stg1_0).wordExact_slice rfl _ (k0_off15_wordsbf16 c)
  | .k7 => (Memref.isWhole_whole cc0_stg1_0).wordExact_slice rfl _ (k0_off15_wordsbf16 c)
  | .k8 => (Memref.isWhole_whole cc0_stg1_0).wordExact_slice rfl _ (k0_off15_wordsbf16 c)
  | .k10 => (Memref.isWhole_whole cc0_scratch1).wordExact_slice rfl _ wordsbf16_S1024x512_S512x512_0_0
  | .k11 => (Memref.isWhole_whole cc0_scratch1).wordExact_slice rfl _ wordsbf16_S1024x512_S128x512_512_0
  | .k12 => (Memref.isWhole_whole cc0_scratch1).wordExact_slice rfl _ wordsbf16_S1024x512_S128x512_640_0
  | .k13 => (Memref.isWhole_whole cc0_scratch1).wordExact_slice rfl _ wordsbf16_S1024x512_S128x512_768_0
  | .k14 => (Memref.isWhole_whole cc0_scratch1).wordExact_slice rfl _ wordsbf16_S1024x512_S128x512_896_0
  | .k15 => (Memref.isWhole_whole cc0_stg1_0).wordExact_slice rfl _ (k0_off14_wordsbf16 c)
  | .k16 => (Memref.isWhole_whole cc0_stg1_0).wordExact_slice rfl _ (k0_off14_wordsbf16 c)
  | .k17 => (Memref.isWhole_whole cc0_stg1_0).wordExact_slice rfl _ (k0_off14_wordsbf16 c)
  | .k19 => (Memref.isWhole_whole cc0_stg1_0).wordExact_slice rfl _ (k0_off16_wordsbf16 c)

/-- The device a copy started by `c` goes to. -/
def tgt (c : Dev nD) : Copy → Dev nD
  | .k0 => ⟨k0_dev6 c, k0_dev6_lt c⟩
  | .k1 => ⟨k0_dev7 c, k0_dev7_lt c⟩
  | .k2 => ⟨k0_dev8 c, k0_dev8_lt c⟩
  | .k3 => ⟨k0_dev10 c, k0_dev10_lt c⟩
  | .k4 => ⟨k0_dev14 c, k0_dev14_lt c⟩
  | .k5 => ⟨k0_dev16 c, k0_dev16_lt c⟩
  | .k6 => ⟨k0_dev20 c, k0_dev20_lt c⟩
  | .k7 => ⟨k0_dev21 c, k0_dev21_lt c⟩
  | .k8 => ⟨k0_dev22 c, k0_dev22_lt c⟩
  | .k10 => ⟨k0_dev9 c, k0_dev9_lt c⟩
  | .k11 => ⟨k0_dev11 c, k0_dev11_lt c⟩
  | .k12 => ⟨k0_dev12 c, k0_dev12_lt c⟩
  | .k13 => ⟨k0_dev13 c, k0_dev13_lt c⟩
  | .k14 => ⟨k0_dev15 c, k0_dev15_lt c⟩
  | .k15 => ⟨k0_dev17 c, k0_dev17_lt c⟩
  | .k16 => ⟨k0_dev18 c, k0_dev18_lt c⟩
  | .k17 => ⟨k0_dev19 c, k0_dev19_lt c⟩
  | .k19 => ⟨k0_dev23 c, k0_dev23_lt c⟩

/-- The semaphore that says a copy has left. -/
def sendS : Copy → DmaSem sig
  | .k0 => ((cc0_scratch2.slice (Rect.unit (s := S20) ![0] S1.size inb_S20_S1_0) : DmaSems sig S1).squeeze S_ squeezes_S1_S_ : DmaSems sig S_).sem
  | .k1 => ((cc0_scratch2.slice (Rect.unit (s := S20) ![1] S1.size inb_S20_S1_1) : DmaSems sig S1).squeeze S_ squeezes_S1_S_ : DmaSems sig S_).sem
  | .k2 => ((cc0_scratch2.slice (Rect.unit (s := S20) ![2] S1.size inb_S20_S1_2) : DmaSems sig S1).squeeze S_ squeezes_S1_S_ : DmaSems sig S_).sem
  | .k3 => ((cc0_scratch2.slice (Rect.unit (s := S20) ![3] S1.size inb_S20_S1_3) : DmaSems sig S1).squeeze S_ squeezes_S1_S_ : DmaSems sig S_).sem
  | .k4 => ((cc0_scratch2.slice (Rect.unit (s := S20) ![4] S1.size inb_S20_S1_4) : DmaSems sig S1).squeeze S_ squeezes_S1_S_ : DmaSems sig S_).sem
  | .k5 => ((cc0_scratch2.slice (Rect.unit (s := S20) ![5] S1.size inb_S20_S1_5) : DmaSems sig S1).squeeze S_ squeezes_S1_S_ : DmaSems sig S_).sem
  | .k6 => ((cc0_scratch2.slice (Rect.unit (s := S20) ![6] S1.size inb_S20_S1_6) : DmaSems sig S1).squeeze S_ squeezes_S1_S_ : DmaSems sig S_).sem
  | .k7 => ((cc0_scratch2.slice (Rect.unit (s := S20) ![7] S1.size inb_S20_S1_7) : DmaSems sig S1).squeeze S_ squeezes_S1_S_ : DmaSems sig S_).sem
  | .k8 => ((cc0_scratch2.slice (Rect.unit (s := S20) ![8] S1.size inb_S20_S1_8) : DmaSems sig S1).squeeze S_ squeezes_S1_S_ : DmaSems sig S_).sem
  | .k10 => ((cc0_scratch2.slice (Rect.unit (s := S20) ![10] S1.size inb_S20_S1_10) : DmaSems sig S1).squeeze S_ squeezes_S1_S_ : DmaSems sig S_).sem
  | .k11 => ((cc0_scratch2.slice (Rect.unit (s := S20) ![11] S1.size inb_S20_S1_11) : DmaSems sig S1).squeeze S_ squeezes_S1_S_ : DmaSems sig S_).sem
  | .k12 => ((cc0_scratch2.slice (Rect.unit (s := S20) ![12] S1.size inb_S20_S1_12) : DmaSems sig S1).squeeze S_ squeezes_S1_S_ : DmaSems sig S_).sem
  | .k13 => ((cc0_scratch2.slice (Rect.unit (s := S20) ![13] S1.size inb_S20_S1_13) : DmaSems sig S1).squeeze S_ squeezes_S1_S_ : DmaSems sig S_).sem
  | .k14 => ((cc0_scratch2.slice (Rect.unit (s := S20) ![14] S1.size inb_S20_S1_14) : DmaSems sig S1).squeeze S_ squeezes_S1_S_ : DmaSems sig S_).sem
  | .k15 => ((cc0_scratch2.slice (Rect.unit (s := S20) ![15] S1.size inb_S20_S1_15) : DmaSems sig S1).squeeze S_ squeezes_S1_S_ : DmaSems sig S_).sem
  | .k16 => ((cc0_scratch2.slice (Rect.unit (s := S20) ![16] S1.size inb_S20_S1_16) : DmaSems sig S1).squeeze S_ squeezes_S1_S_ : DmaSems sig S_).sem
  | .k17 => ((cc0_scratch2.slice (Rect.unit (s := S20) ![17] S1.size inb_S20_S1_17) : DmaSems sig S1).squeeze S_ squeezes_S1_S_ : DmaSems sig S_).sem
  | .k19 => ((cc0_scratch2.slice (Rect.unit (s := S20) ![19] S1.size inb_S20_S1_19) : DmaSems sig S1).squeeze S_ squeezes_S1_S_ : DmaSems sig S_).sem

/-- The semaphore that says a copy has landed. -/
def recvS : Copy → DmaSem sig
  | .k0 => ((cc0_scratch3.slice (Rect.unit (s := S20) ![0] S1.size inb_S20_S1_0) : DmaSems sig S1).squeeze S_ squeezes_S1_S_ : DmaSems sig S_).sem
  | .k1 => ((cc0_scratch3.slice (Rect.unit (s := S20) ![1] S1.size inb_S20_S1_1) : DmaSems sig S1).squeeze S_ squeezes_S1_S_ : DmaSems sig S_).sem
  | .k2 => ((cc0_scratch3.slice (Rect.unit (s := S20) ![2] S1.size inb_S20_S1_2) : DmaSems sig S1).squeeze S_ squeezes_S1_S_ : DmaSems sig S_).sem
  | .k3 => ((cc0_scratch3.slice (Rect.unit (s := S20) ![3] S1.size inb_S20_S1_3) : DmaSems sig S1).squeeze S_ squeezes_S1_S_ : DmaSems sig S_).sem
  | .k4 => ((cc0_scratch3.slice (Rect.unit (s := S20) ![4] S1.size inb_S20_S1_4) : DmaSems sig S1).squeeze S_ squeezes_S1_S_ : DmaSems sig S_).sem
  | .k5 => ((cc0_scratch3.slice (Rect.unit (s := S20) ![5] S1.size inb_S20_S1_5) : DmaSems sig S1).squeeze S_ squeezes_S1_S_ : DmaSems sig S_).sem
  | .k6 => ((cc0_scratch3.slice (Rect.unit (s := S20) ![6] S1.size inb_S20_S1_6) : DmaSems sig S1).squeeze S_ squeezes_S1_S_ : DmaSems sig S_).sem
  | .k7 => ((cc0_scratch3.slice (Rect.unit (s := S20) ![7] S1.size inb_S20_S1_7) : DmaSems sig S1).squeeze S_ squeezes_S1_S_ : DmaSems sig S_).sem
  | .k8 => ((cc0_scratch3.slice (Rect.unit (s := S20) ![8] S1.size inb_S20_S1_8) : DmaSems sig S1).squeeze S_ squeezes_S1_S_ : DmaSems sig S_).sem
  | .k10 => ((cc0_scratch3.slice (Rect.unit (s := S20) ![10] S1.size inb_S20_S1_10) : DmaSems sig S1).squeeze S_ squeezes_S1_S_ : DmaSems sig S_).sem
  | .k11 => ((cc0_scratch3.slice (Rect.unit (s := S20) ![11] S1.size inb_S20_S1_11) : DmaSems sig S1).squeeze S_ squeezes_S1_S_ : DmaSems sig S_).sem
  | .k12 => ((cc0_scratch3.slice (Rect.unit (s := S20) ![12] S1.size inb_S20_S1_12) : DmaSems sig S1).squeeze S_ squeezes_S1_S_ : DmaSems sig S_).sem
  | .k13 => ((cc0_scratch3.slice (Rect.unit (s := S20) ![13] S1.size inb_S20_S1_13) : DmaSems sig S1).squeeze S_ squeezes_S1_S_ : DmaSems sig S_).sem
  | .k14 => ((cc0_scratch3.slice (Rect.unit (s := S20) ![14] S1.size inb_S20_S1_14) : DmaSems sig S1).squeeze S_ squeezes_S1_S_ : DmaSems sig S_).sem
  | .k15 => ((cc0_scratch3.slice (Rect.unit (s := S20) ![15] S1.size inb_S20_S1_15) : DmaSems sig S1).squeeze S_ squeezes_S1_S_ : DmaSems sig S_).sem
  | .k16 => ((cc0_scratch3.slice (Rect.unit (s := S20) ![16] S1.size inb_S20_S1_16) : DmaSems sig S1).squeeze S_ squeezes_S1_S_ : DmaSems sig S_).sem
  | .k17 => ((cc0_scratch3.slice (Rect.unit (s := S20) ![17] S1.size inb_S20_S1_17) : DmaSems sig S1).squeeze S_ squeezes_S1_S_ : DmaSems sig S_).sem
  | .k19 => ((cc0_scratch3.slice (Rect.unit (s := S20) ![19] S1.size inb_S20_S1_19) : DmaSems sig S1).squeeze S_ squeezes_S1_S_ : DmaSems sig S_).sem

/-- The runtime's barrier semaphore. -/
abbrev barS : Sem sig := (SemArray.scalar (sig.barrier 0 rfl) : Sems sig S_).sem

/-- The five devices a device handshakes with: across the first mesh axis, across the second, across both,
    and the two it pairs with along the third. -/
def nbr (c : Dev nD) : Fin 5 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩

/-- A program of the kernel's core. -/
abbrev Pg (F : FTy → Type) (α : Type) := Prog (TpuEff nD τ sig (Elt F) Λ₀ .tc) α

/-- Start the copy `k`. -/
def send (c : Dev nD) (k : Copy) : Pg F PUnit :=
  .op (.enqueueDma (src c k) (.remote (Dev.tc (tgt c k)) (dst c k) (.dma (sendS k))) (.dma (recvS k)) (src_words c k) (dst_words c k) (by cases k <;> exact ⟨⟨rfl, Or.inl rfl⟩, trivial⟩)) .ret

/-- Wait until the copy `k` has left and the same copy from the other side has landed. -/
def await (c : Dev nD) (k : Copy) : Pg F PUnit :=
  .op (.waitDma2 (sendS k) (dst c k) (src c k) (dst_words c k) (src_words c k)) fun _ =>
  .op (.waitDma2 (recvS k) (src c k) (dst c k) (src_words c k) (dst_words c k)) .ret

/-- A list of programs, one after the other. -/
def seqs : List (Pg F PUnit) → Pg F PUnit
  | [] => .ret ⟨⟩
  | [p] => p
  | p :: ps => p.bind fun _ => seqs ps

/-- The handshake: one unit to each of the five, then five units of its own. -/
def entry (c : Dev nD) : Pg F PUnit :=
  .op (.semSignal (nbr c 0, .tc) barS (1#32).toInt) fun _ =>
  .op (.semSignal (nbr c 1, .tc) barS (1#32).toInt) fun _ =>
  .op (.semSignal (nbr c 2, .tc) barS (1#32).toInt) fun _ =>
  .op (.semSignal (nbr c 3, .tc) barS (1#32).toInt) fun _ =>
  .op (.semSignal (nbr c 4, .tc) barS (1#32).toInt) fun _ =>
  .op (.semWait barS (5#32).toInt) .ret

/-- Copy the argument block into the result buffer. -/
def fill : Pg F PUnit :=
  .op (.load xM (Rect.unit (s := S1x1x1x1024x1024) ![0, 0, 0, 0, 0] S1x1x1x1024x1024.size inb_S1x1x1x1024x1024_S1x1x1x1024x1024_0_0_0_0_0).toLoadRect (View.loadsAt_vmem h_S1x1x1x1024x1024)) fun v =>
  .op (.load oM (Rect.unit (s := S1024x1024) ![0, 0] S1024x1024.size inb_S1024x1024_S1024x1024_0_0).toLoadRect (View.loadsAt_vmem h_S1024x1024)) fun _ =>
  .op (.store oM (Rect.unit (s := S1024x1024) ![0, 0] S1024x1024.size inb_S1024x1024_S1024x1024_0_0) (k0_pay1 v) Finset.univ (View.stores_vmem h_S1024x1024 ((Memref.isWhole_whole cc0_stg1_0).storeExact_slice rfl _ packedbf16_S1024x1024_S1024x1024_0_0) (fun _ => rfl)) (.inl rfl)) .ret

/-- Add the three landed quarters into its own quarter of the left half. -/
def addA1 (c : Dev nD) : Pg F PUnit :=
  .op (.load oM (Rect.unit (s := S1024x1024) (k0_off5 c) S256x512.size (k0_off5_inb c)).toLoadRect (View.loadsAt_vmem h_S256x512)) fun v =>
  .op (.load aM (Rect.unit (s := S1024x512) ![0, 0] S256x512.size inb_S1024x512_S256x512_0_0).toLoadRect (View.loadsAt_vmem h_S256x512)) fun w0 =>
  .op (.load aM (Rect.unit (s := S1024x512) ![256, 0] S256x512.size inb_S1024x512_S256x512_256_0).toLoadRect (View.loadsAt_vmem h_S256x512)) fun w1 =>
  .op (.load aM (Rect.unit (s := S1024x512) ![512, 0] S256x512.size inb_S1024x512_S256x512_512_0).toLoadRect (View.loadsAt_vmem h_S256x512)) fun w2 =>
  .op (.load oM (Rect.unit (s := S1024x1024) (k0_off5 c) S256x512.size (k0_off5_inb c)).toLoadRect (View.loadsAt_vmem h_S256x512)) fun _ =>
  .op (.store oM (Rect.unit (s := S1024x1024) (k0_off5 c) S256x512.size (k0_off5_inb c)) (k0_pay2 v w0 w1 w2) Finset.univ (View.stores_vmem h_S256x512 ((Memref.isWhole_whole cc0_stg1_0).storeExact_slice rfl _ (k0_off5_packedbf16 c)) (fun _ => rfl)) (.inl rfl)) .ret

/-- Add the landed half of the rows into its own half of the right half. -/
def addB1 (c : Dev nD) : Pg F PUnit :=
  .op (.load oM (Rect.unit (s := S1024x1024) (k0_off6 c) S512x512.size (k0_off6_inb c)).toLoadRect (View.loadsAt_vmem h_S512x512)) fun v =>
  .op (.load bM (Rect.unit (s := S1024x512) ![0, 0] S512x512.size inb_S1024x512_S512x512_0_0).toLoadRect (View.loadsAt_vmem h_S512x512)) fun w0 =>
  .op (.load oM (Rect.unit (s := S1024x1024) (k0_off6 c) S512x512.size (k0_off6_inb c)).toLoadRect (View.loadsAt_vmem h_S512x512)) fun _ =>
  .op (.store oM (Rect.unit (s := S1024x1024) (k0_off6 c) S512x512.size (k0_off6_inb c)) (k0_pay3 v w0) Finset.univ (View.stores_vmem h_S512x512 ((Memref.isWhole_whole cc0_stg1_0).storeExact_slice rfl _ (k0_off6_packedbf16 c)) (fun _ => rfl)) (.inl rfl)) .ret

/-- Add the landed block into its own block of the left half. -/
def addA2 (c : Dev nD) : Pg F PUnit :=
  .op (.load oM (Rect.unit (s := S1024x1024) (k0_off11 c) S128x512.size (k0_off11_inb c)).toLoadRect (View.loadsAt_vmem h_S128x512)) fun v =>
  .op (.load aM (Rect.unit (s := S1024x512) ![768, 0] S128x512.size inb_S1024x512_S128x512_768_0).toLoadRect (View.loadsAt_vmem h_S128x512)) fun w0 =>
  .op (.load oM (Rect.unit (s := S1024x1024) (k0_off11 c) S128x512.size (k0_off11_inb c)).toLoadRect (View.loadsAt_vmem h_S128x512)) fun _ =>
  .op (.store oM (Rect.unit (s := S1024x1024) (k0_off11 c) S128x512.size (k0_off11_inb c)) (k0_pay4 v w0) Finset.univ (View.stores_vmem h_S128x512 ((Memref.isWhole_whole cc0_stg1_0).storeExact_slice rfl _ (k0_off11_packedbf16 c)) (fun _ => rfl)) (.inl rfl)) .ret

/-- Add the three landed blocks into its own block of the right half. -/
def addB2 (c : Dev nD) : Pg F PUnit :=
  .op (.load oM (Rect.unit (s := S1024x1024) (k0_off12 c) S128x512.size (k0_off12_inb c)).toLoadRect (View.loadsAt_vmem h_S128x512)) fun v =>
  .op (.load bM (Rect.unit (s := S1024x512) ![512, 0] S128x512.size inb_S1024x512_S128x512_512_0).toLoadRect (View.loadsAt_vmem h_S128x512)) fun w0 =>
  .op (.load bM (Rect.unit (s := S1024x512) ![640, 0] S128x512.size inb_S1024x512_S128x512_640_0).toLoadRect (View.loadsAt_vmem h_S128x512)) fun w1 =>
  .op (.load bM (Rect.unit (s := S1024x512) ![768, 0] S128x512.size inb_S1024x512_S128x512_768_0).toLoadRect (View.loadsAt_vmem h_S128x512)) fun w2 =>
  .op (.load oM (Rect.unit (s := S1024x1024) (k0_off12 c) S128x512.size (k0_off12_inb c)).toLoadRect (View.loadsAt_vmem h_S128x512)) fun _ =>
  .op (.store oM (Rect.unit (s := S1024x1024) (k0_off12 c) S128x512.size (k0_off12_inb c)) (k0_pay5 v w0 w1 w2) Finset.univ (View.stores_vmem h_S128x512 ((Memref.isWhole_whole cc0_stg1_0).storeExact_slice rfl _ (k0_off12_packedbf16 c)) (fun _ => rfl)) (.inl rfl)) .ret

/-- Add the block landed last into its own block of the left half. -/
def addA3 (c : Dev nD) : Pg F PUnit :=
  .op (.load oM (Rect.unit (s := S1024x1024) (k0_off11 c) S128x512.size (k0_off11_inb c)).toLoadRect (View.loadsAt_vmem h_S128x512)) fun v =>
  .op (.load aM (Rect.unit (s := S1024x512) ![896, 0] S128x512.size inb_S1024x512_S128x512_896_0).toLoadRect (View.loadsAt_vmem h_S128x512)) fun w0 =>
  .op (.load oM (Rect.unit (s := S1024x1024) (k0_off11 c) S128x512.size (k0_off11_inb c)).toLoadRect (View.loadsAt_vmem h_S128x512)) fun _ =>
  .op (.store oM (Rect.unit (s := S1024x1024) (k0_off11 c) S128x512.size (k0_off11_inb c)) (k0_pay6 v w0) Finset.univ (View.stores_vmem h_S128x512 ((Memref.isWhole_whole cc0_stg1_0).storeExact_slice rfl _ (k0_off11_packedbf16 c)) (fun _ => rfl)) (.inl rfl)) .ret

/-- Add the block landed last into its own block of the right half. -/
def addB3 (c : Dev nD) : Pg F PUnit :=
  .op (.load oM (Rect.unit (s := S1024x1024) (k0_off12 c) S128x512.size (k0_off12_inb c)).toLoadRect (View.loadsAt_vmem h_S128x512)) fun v =>
  .op (.load bM (Rect.unit (s := S1024x512) ![896, 0] S128x512.size inb_S1024x512_S128x512_896_0).toLoadRect (View.loadsAt_vmem h_S128x512)) fun w0 =>
  .op (.load oM (Rect.unit (s := S1024x1024) (k0_off12 c) S128x512.size (k0_off12_inb c)).toLoadRect (View.loadsAt_vmem h_S128x512)) fun _ =>
  .op (.store oM (Rect.unit (s := S1024x1024) (k0_off12 c) S128x512.size (k0_off12_inb c)) (k0_pay8 (k0_pay7 v) w0) Finset.univ (View.stores_vmem h_S128x512 ((Memref.isWhole_whole cc0_stg1_0).storeExact_slice rfl _ (k0_off12_packedbf16 c)) (fun _ => rfl)) (.inl rfl)) .ret

/-- The copies of each of the five exchanges. -/
def L0 : List Copy := [.k0, .k1, .k2, .k10]
def L1 : List Copy := [.k3, .k11, .k12, .k13]
def L2 : List Copy := [.k4, .k14]
def L3 : List Copy := [.k5, .k15, .k16, .k17]
def L4 : List Copy := [.k6, .k7, .k8, .k19]

/-- Exchange quarters of the left half across the first two axes and halves of the right half along the third, and add. -/
def phase0 (c : Dev nD) : List (Pg F PUnit) :=
  [send c .k0, send c .k1, send c .k2, send c .k10, await c .k0, await c .k1, await c .k2, addA1 c, await c .k10, addB1 c]

/-- Exchange blocks, the other axes for each half, and add. -/
def phase1 (c : Dev nD) : List (Pg F PUnit) :=
  [send c .k3, send c .k11, send c .k12, send c .k13, await c .k3, addA2 c, await c .k11, await c .k12, await c .k13, addB2 c]

/-- Exchange the own block of each half with the second pair along the third axis, and add: the blocks are final. -/
def phase2 (c : Dev nD) : List (Pg F PUnit) :=
  [send c .k4, send c .k14, await c .k4, addA3 c, await c .k14, addB3 c]

/-- Hand the final blocks back. -/
def phase3 (c : Dev nD) : List (Pg F PUnit) :=
  [send c .k5, send c .k15, send c .k16, send c .k17, await c .k5, await c .k15, await c .k16, await c .k17]

/-- Hand the final quarters and halves back. -/
def phase4 (c : Dev nD) : List (Pg F PUnit) :=
  [send c .k6, send c .k7, send c .k8, send c .k19, await c .k6, await c .k7, await c .k8, await c .k19]

/-- The kernel on one device, its steps in order. -/
def steps (c : Dev nD) : List (Pg F PUnit) :=
  entry c :: fill :: (phase0 c ++ (phase1 c ++ (phase2 c ++ (phase3 c ++ phase4 c))))

set_option maxHeartbeats 4000000 in
/-- The printed kernel is that list of steps. -/
theorem body_eq : (cc0_body xM (Memref.isWhole_whole _) oM (Memref.isWhole_whole _) aM (Memref.isWhole_whole _) bM (Memref.isWhole_whole _) cc0_scratch2 cc0_scratch3 : Pg F PUnit)
    = .op .deviceId fun c => seqs (steps c) := by
  rfl

end Cert.AllSum

end
-- ==== Proof.Pieces.lean ====
/-
The mesh seen by one device, and the pieces of the result buffer and of the landing buffers the copies move.
-/
module

public import proofs.«01_k».proof.Proof.Steps

@[expose] public section

set_option maxRecDepth 16384

noncomputable section

namespace Cert.AllSum

open Cert.KernelIdeal Cert.KernelIdeal.Gen
open Idealize.ShloMosaic
open Idealize.ShloMosaic.TcCoe
open Idealize.SL.Sem

/-! ## Devices -/

/-- Which of its five neighbours a copy goes to. -/
def ax : Copy → Fin 5
  | .k0 => 0 | .k1 => 1 | .k2 => 2 | .k3 => 3 | .k4 => 4 | .k5 => 3 | .k6 => 0 | .k7 => 1 | .k8 => 2
  | .k10 => 3 | .k11 => 0 | .k12 => 1 | .k13 => 2 | .k14 => 4 | .k15 => 0 | .k16 => 1 | .k17 => 2 | .k19 => 3

/-- The device a copy started by `c` goes to, as a neighbour. The same copy comes back from it. -/
abbrev peer (c : Dev nD) (k : Copy) : Dev nD := nbr c (ax k)

theorem tgt_eq : ∀ (c : Dev nD) (k : Copy), tgt c k = peer c k := by decide +kernel
theorem nbr_nbr : ∀ (c : Dev nD) (j : Fin 5), nbr (nbr c j) j = c := by decide +kernel
theorem peer_peer (c : Dev nD) (k : Copy) : peer (peer c k) k = c := nbr_nbr c (ax k)

/-- The neighbours across `j`, as a rearrangement of the devices. -/
def across (j : Fin 5) : Dev nD ≃ Dev nD := ⟨fun c => nbr c j, fun c => nbr c j, fun c => nbr_nbr c j, fun c => nbr_nbr c j⟩

/-- The quarter of the rows a device adds up (its place on the first two mesh axes), -/
def fq (c : Dev nD) : ℕ := c.val / 4
/-- and the half of the rows (the parity of its place on the third). -/
def hb (c : Dev nD) : ℕ := c.val % 2

theorem fq_lt : ∀ c : Dev nD, fq c < 4 := by decide +kernel
theorem hb_lt : ∀ c : Dev nD, hb c < 2 := by decide +kernel
theorem fq_nbr0 : ∀ c : Dev nD, fq (nbr c 0) = (fq c + 2) % 4 := by decide +kernel
theorem fq_nbr1 : ∀ c : Dev nD, fq (nbr c 1) = fq c + 1 - 2 * (fq c % 2) := by decide +kernel
theorem fq_nbr2 : ∀ c : Dev nD, fq (nbr c 2) = 3 - fq c := by decide +kernel
theorem fq_nbr3 : ∀ c : Dev nD, fq (nbr c 3) = fq c := by decide +kernel
theorem fq_nbr4 : ∀ c : Dev nD, fq (nbr c 4) = fq c := by decide +kernel
theorem hb_nbr0 : ∀ c : Dev nD, hb (nbr c 0) = hb c := by decide +kernel
theorem hb_nbr1 : ∀ c : Dev nD, hb (nbr c 1) = hb c := by decide +kernel
theorem hb_nbr2 : ∀ c : Dev nD, hb (nbr c 2) = hb c := by decide +kernel
theorem hb_nbr3 : ∀ c : Dev nD, hb (nbr c 3) = 1 - hb c := by decide +kernel
theorem hb_nbr4 : ∀ c : Dev nD, hb (nbr c 4) = hb c := by decide +kernel

/-! ## Pieces of the result buffer -/

/-- Indices of the result buffer. -/
abbrev OIdx := S1024x1024.Idx

/-- The row and the column of an element. -/
def row (i : OIdx) : ℕ := (i 0).val
def col (i : OIdx) : ℕ := (i 1).val
theorem row_lt (i : OIdx) : row i < 1024 := (i 0).isLt
theorem col_lt (i : OIdx) : col i < 1024 := (i 1).isLt

/-- Left half of the columns: quarter `q` of the rows, and half `h` of that quarter. -/
def qA (q : ℕ) : Finset OIdx := Finset.univ.filter fun i => col i < 512 ∧ row i / 256 = q
def pA (q h : ℕ) : Finset OIdx := Finset.univ.filter fun i => col i < 512 ∧ row i / 128 = 2 * q + h
/-- Right half of the columns: half `h` of the rows, and quarter `q` of that half. -/
def hB (h : ℕ) : Finset OIdx := Finset.univ.filter fun i => 512 ≤ col i ∧ row i / 512 = h
def pB (h q : ℕ) : Finset OIdx := Finset.univ.filter fun i => 512 ≤ col i ∧ row i / 128 = 4 * h + q

theorem mem_qA {q : ℕ} {i : OIdx} : i ∈ qA q ↔ col i < 512 ∧ row i / 256 = q := by simp [qA]
theorem mem_pA {q h : ℕ} {i : OIdx} : i ∈ pA q h ↔ col i < 512 ∧ row i / 128 = 2 * q + h := by simp [pA]
theorem mem_hB {h : ℕ} {i : OIdx} : i ∈ hB h ↔ 512 ≤ col i ∧ row i / 512 = h := by simp [hB]
theorem mem_pB {h q : ℕ} {i : OIdx} : i ∈ pB h q ↔ 512 ≤ col i ∧ row i / 128 = 4 * h + q := by simp [pB]

/-- The piece of `c`'s result buffer the copy `k` reads. -/
def piece (c : Dev nD) : Copy → Finset OIdx
  | .k0 => qA (fq (nbr c 0)) | .k1 => qA (fq (nbr c 1)) | .k2 => qA (fq (nbr c 2))
  | .k3 => pA (fq c) (hb (nbr c 3)) | .k4 => pA (fq c) (hb c) | .k5 => pA (fq c) (hb c)
  | .k6 => qA (fq c) | .k7 => qA (fq c) | .k8 => qA (fq c)
  | .k10 => hB (hb (nbr c 3))
  | .k11 => pB (hb c) (fq (nbr c 0)) | .k12 => pB (hb c) (fq (nbr c 1)) | .k13 => pB (hb c) (fq (nbr c 2))
  | .k14 => pB (hb c) (fq c) | .k15 => pB (hb c) (fq c) | .k16 => pB (hb c) (fq c) | .k17 => pB (hb c) (fq c)
  | .k19 => hB (hb c)

/-- The rectangle at rows `[r, r + n)` and columns `[l, l + 512)`. -/
theorem mem_rect {o s : Fin 2 → ℕ} (h : ∀ a : Fin 2, o a + s a ≤ S1024x1024.size a) (i : OIdx) :
    i ∈ (Rect.unit (s := S1024x1024) o s h).set ↔ (o 0 ≤ row i ∧ row i < o 0 + s 0) ∧ o 1 ≤ col i ∧ col i < o 1 + s 1 := by
  rw [Rect.mem_set_unit]; exact Fin.forall_fin_two

/-- Where each copy's source begins, by row and column. -/
theorem off_row (c : Dev nD) (k : Copy) : off c k 0 = match k with
    | .k0 => 256 * fq (nbr c 0) | .k1 => 256 * fq (nbr c 1) | .k2 => 256 * fq (nbr c 2)
    | .k3 => 256 * fq c + 128 * hb (nbr c 3) | .k4 => 256 * fq c + 128 * hb c | .k5 => 256 * fq c + 128 * hb c
    | .k6 => 256 * fq c | .k7 => 256 * fq c | .k8 => 256 * fq c
    | .k10 => 512 * hb (nbr c 3)
    | .k11 => 512 * hb c + 128 * fq (nbr c 0) | .k12 => 512 * hb c + 128 * fq (nbr c 1) | .k13 => 512 * hb c + 128 * fq (nbr c 2)
    | .k14 => 512 * hb c + 128 * fq c | .k15 => 512 * hb c + 128 * fq c | .k16 => 512 * hb c + 128 * fq c | .k17 => 512 * hb c + 128 * fq c
    | .k19 => 512 * hb c := by
  revert c k; decide +kernel

theorem off_col (c : Dev nD) (k : Copy) : off c k 1 = match k with
    | .k0 | .k1 | .k2 | .k3 | .k4 | .k5 | .k6 | .k7 | .k8 => 0
    | _ => 512 := by
  revert c k; decide +kernel

theorem src_set (c : Dev nD) (k : Copy) : (src c k).view.set = piece c k := by
  have h1 := off_row c k; have h2 := off_col c k
  have : (src c k).view.set = (Rect.unit (s := S1024x1024) (off c k) (sz k) (off_inb c k)).set := View.set_slice_whole _ _
  rw [this]; ext i; rw [mem_rect, h1, h2]
  have := row_lt i; have := col_lt i
  cases k <;> simp only [piece, mem_qA, mem_pA, mem_hB, mem_pB, sz, Matrix.cons_val_zero, Matrix.cons_val_one] <;>
    constructor <;> intro h <;> omega

end Cert.AllSum

end
-- ==== Proof.Contents.lean ====
/-
What the result buffer of each device holds between the exchanges, as functions of the blocks the devices start from.
-/
module

public import proofs.«01_k».proof.Proof.Pieces

@[expose] public section

set_option maxRecDepth 16384

noncomputable section

namespace Cert.AllSum

open Cert.KernelIdeal Cert.KernelIdeal.Gen
open Idealize.ShloMosaic
open Idealize.ShloMosaic.TcCoe
open Idealize.SL.Sem

variable {F : FTy → Type} [FloatOps F]

/-- Contents of a whole result buffer. -/
abbrev Blk (F : FTy → Type) := FVec F S1024x1024 .bf16

variable (X : Dev nD → Blk F)

/-- Left half, own quarter, after the first exchange: the sum over the first two axes. -/
def A1 (c : Dev nD) : Blk F := addf (addf (addf (X c) (X (nbr c 0))) (X (nbr c 1))) (X (nbr c 2))
/-- Left half, own block, after the second and the third exchange. -/
def A2 (c : Dev nD) : Blk F := addf (A1 X c) (A1 X (nbr c 3))
def A3 (c : Dev nD) : Blk F := addf (A2 X c) (A2 X (nbr c 4))
/-- Right half, own half of the rows, after the first exchange: the sum with the pair on the third axis. -/
def B1 (c : Dev nD) : Blk F := addf (X c) (X (nbr c 3))
/-- Right half, own block, after the second and the third exchange. -/
def B2 (c : Dev nD) : Blk F := addf (addf (addf (B1 X c) (B1 X (nbr c 0))) (B1 X (nbr c 1))) (B1 X (nbr c 2))
def B3 (c : Dev nD) : Blk F := addf (B2 X c) (B2 X (nbr c 4))

/-- Of `c` and its pair on the third axis, the one that adds up the half `h`. -/
def ownZ (c : Dev nD) (h : ℕ) : Dev nD := if h = hb c then c else nbr c 3
/-- Of `c` and its three neighbours on the first two axes, the one that adds up the quarter `q`. -/
def ownF (c : Dev nD) (q : ℕ) : Dev nD :=
  if q = fq c then c else if q = fq (nbr c 0) then nbr c 0 else if q = fq (nbr c 1) then nbr c 1 else nbr c 2

/-- After the fourth exchange: own quarter (left), own half (right), each element from the device that added it up. -/
def A4 (c : Dev nD) : Blk F := fun i => A3 X (ownZ c (row i / 128 % 2)) i
def B4 (c : Dev nD) : Blk F := fun i => B3 X (ownF c (row i / 128 % 4)) i
/-- After the fifth: everything. -/
def A5 (c : Dev nD) : Blk F := fun i => A4 X (ownF c (row i / 256)) i
def B5 (c : Dev nD) : Blk F := fun i => B4 X (ownZ c (row i / 512)) i
def outOf (c : Dev nD) : Blk F := fun i => if col i < 512 then A5 X c i else B5 X c i

/-- What the result buffer of `c` holds where the copy `k` reads it. -/
def cont (c : Dev nD) : Copy → Blk F
  | .k0 | .k1 | .k2 | .k10 => X c
  | .k3 => A1 X c
  | .k11 | .k12 | .k13 => B1 X c
  | .k4 => A2 X c
  | .k14 => B2 X c
  | .k5 => A3 X c
  | .k15 | .k16 | .k17 => B3 X c
  | .k6 | .k7 | .k8 => A4 X c
  | .k19 => B4 X c

/-! ## The joined contents on each piece -/

section Pieces
variable {X} {c : Dev nD} {i : OIdx}

theorem A4_own (h : i ∈ pA (fq c) (hb c)) : A3 X c i = A4 X c i := by
  have := hb_lt c; rw [mem_pA] at h
  have e : row i / 128 % 2 = hb c := by omega
  rw [A4, e, ownZ, if_pos rfl]
theorem A4_pair (h : i ∈ pA (fq (nbr c 3)) (hb (nbr c 3))) : A3 X (nbr c 3) i = A4 X c i := by
  have h1 := hb_nbr3 c; have := hb_lt c; rw [mem_pA] at h
  have e : row i / 128 % 2 ≠ hb c := by omega
  rw [A4, ownZ, if_neg e]

theorem ownF_own : ownF c (fq c) = c := if_pos rfl
theorem ownF_nbr0 : ownF c (fq (nbr c 0)) = nbr c 0 := by
  have := fq_nbr0 c; have := fq_lt c
  rw [ownF, if_neg (by omega), if_pos rfl]
theorem ownF_nbr1 : ownF c (fq (nbr c 1)) = nbr c 1 := by
  have := fq_nbr0 c; have := fq_nbr1 c; have := fq_lt c
  rw [ownF, if_neg (by omega), if_neg (by omega), if_pos rfl]
theorem ownF_nbr2 : ownF c (fq (nbr c 2)) = nbr c 2 := by
  have := fq_nbr0 c; have := fq_nbr1 c; have := fq_nbr2 c; have := fq_lt c
  rw [ownF, if_neg (by omega), if_neg (by omega), if_neg (by omega)]

theorem B4_of {q : ℕ} {d : Dev nD} (hd : ownF c q = d) (hq : q < 4) {h : ℕ} (hi : i ∈ pB h q) : B3 X d i = B4 X c i := by
  rw [mem_pB] at hi
  have e : row i / 128 % 4 = q := by omega
  rw [B4, e, hd]
theorem A5_of {q : ℕ} {d : Dev nD} (hd : ownF c q = d) (hi : i ∈ qA q) : A4 X d i = outOf X c i := by
  rw [mem_qA] at hi
  rw [outOf, if_pos hi.1, A5, hi.2, hd]
theorem B5_own (hi : i ∈ hB (hb c)) : B4 X c i = outOf X c i := by
  rw [mem_hB] at hi
  rw [outOf, if_neg (by omega), B5, hi.2, ownZ, if_pos rfl]
theorem B5_pair (hi : i ∈ hB (hb (nbr c 3))) : B4 X (nbr c 3) i = outOf X c i := by
  have h1 := hb_nbr3 c; have := hb_lt c
  rw [mem_hB] at hi
  rw [outOf, if_neg (by omega), B5, hi.2, ownZ, if_neg (by omega)]

end Pieces

/-! ## Reads and writes through a rectangle of the result buffer -/

/-- What a piece beginning at `o` reads, from contents `f`: the elements of the rectangle that begins there. -/
theorem read_piece {o o' s : Fin 2 → ℕ} (e : o = o') (h : ∀ a, o a + s a ≤ S1024x1024.size a) (h' : ∀ a, o' a + s a ≤ S1024x1024.size a)
    (f : Blk F) : ((oM.access (Rect.unit (s := S1024x1024) o s h) : View sig .tc _ _ _).read (Elt F) f : (⟨2, s⟩ : Shape).Idx → Elt F .bf16)
      = fun x => f ((Rect.unit (s := S1024x1024) o' s h').emb x) := by
  subst e; rfl

theorem set_piece {o s : Fin 2 → ℕ} (h : ∀ a, o a + s a ≤ S1024x1024.size a) :
    (oM.access (Rect.unit (s := S1024x1024) o s h) : View sig .tc _ _ _).set = (Rect.unit (s := S1024x1024) o s h).set :=
  View.set_slice_whole _ _

/-- A rectangle written whole with elements of `g` holds `g`. -/
theorem write_piece {o s : Fin 2 → ℕ} (h : ∀ a, o a + s a ≤ S1024x1024.size a) (f g : Blk F) (w : (⟨2, s⟩ : Shape).Idx → Elt F .bf16)
    (hw : ∀ x, w x = g ((Rect.unit (s := S1024x1024) o s h).emb x)) (i : OIdx) (hi : i ∈ (Rect.unit (s := S1024x1024) o s h).set) :
    (oM.access (Rect.unit (s := S1024x1024) o s h) : View sig .tc _ _ _).write (Elt F) f w Finset.univ i = g i := by
  rw [← set_piece] at hi
  obtain ⟨x, -, rfl⟩ := Finset.mem_map.mp hi
  rw [View.write_emb_of_mem (Val := Elt F) (v := oM.access (Rect.unit (s := S1024x1024) o s h)) f w (Finset.mem_univ x)]
  exact hw x

/-- A piece of one whole-buffer contents written with the same piece read from another holds the other. -/
theorem write_src (e : Dev nD) (k : Copy) (f g : Blk F) (i : OIdx) (hi : i ∈ piece e k) :
    (src e k).view.write (Elt F) f ((src e k).view.read (Elt F) g) Finset.univ i = g i := by
  rw [← src_set] at hi
  obtain ⟨x, -, rfl⟩ := Finset.mem_map.mp hi
  exact View.write_emb_of_mem (Val := Elt F) (v := (src e k).view) f _ (Finset.mem_univ x)

/-! ## Where each device adds -/

theorem off5_eq : ∀ c : Dev nD, off (nbr c 0) .k0 = k0_off5 c ∧ off (nbr c 1) .k1 = k0_off5 c ∧ off (nbr c 2) .k2 = k0_off5 c ∧ off c .k6 = k0_off5 c := by decide +kernel
theorem off6_eq : ∀ c : Dev nD, off (nbr c 3) .k10 = k0_off6 c ∧ off c .k19 = k0_off6 c := by decide +kernel
theorem off11_eq : ∀ c : Dev nD, off (nbr c 3) .k3 = k0_off11 c ∧ off (nbr c 4) .k4 = k0_off11 c ∧ off c .k5 = k0_off11 c := by decide +kernel
theorem off12_eq : ∀ c : Dev nD, off (nbr c 0) .k11 = k0_off12 c ∧ off (nbr c 1) .k12 = k0_off12 c ∧ off (nbr c 2) .k13 = k0_off12 c
    ∧ off (nbr c 4) .k14 = k0_off12 c ∧ off c .k15 = k0_off12 c := by decide +kernel

/-- A rectangle that begins where the copy `k` of `c` reads covers that copy's piece. -/
theorem rect_set (c : Dev nD) (k : Copy) {o : Fin 2 → ℕ} (e : off c k = o) (h : ∀ a, o a + sz k a ≤ S1024x1024.size a) :
    (Rect.unit (s := S1024x1024) o (sz k) h).set = piece c k := by
  subst e; rw [← src_set]; exact (View.set_slice_whole _ _).symm

end Cert.AllSum

end
-- ==== Proof.Schedule.lean ====
/-
The semaphores the kernel uses, what each of them hands over when it is waited on, and the order of the waits.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duty names: the barrier has five duties, one for each neighbour; every other semaphore uses the first name only. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Which semaphore is which -/

/-- The semaphores with a protocol: the barrier, and for each copy the one counted at its sender and the one counted
    at its receiver. -/
abbrev Role := Option (Copy × Bool)
def semOf : Role → SemLoc sig
  | none => .reg barS
  | some (k, false) => .dma (sendS k)
  | some (k, true) => .dma (recvS k)
def roles : List Role := none :: copies.flatMap fun k => [some (k, false), some (k, true)]
/-- The role of a semaphore, if it has one. -/
def which (sm : SemLoc sig) : Option Role := roles.find? fun i => decide (semOf i = sm)
theorem which_semOf : ∀ i, which (semOf i) = some i := by decide +kernel
theorem semOf_injective : Function.Injective semOf := fun i j h => Option.some.inj (by rw [← which_semOf i, ← which_semOf j, h])

abbrev cell (c : Dev nD) (i : Role) : GSem nD τ sig := ((c : Thread nD τ), semOf i)
abbrev barC (c : Dev nD) : GSem nD τ sig := ((c : Thread nD τ), .reg barS)
abbrev sendC (c : Dev nD) (k : Copy) : GSem nD τ sig := ((c : Thread nD τ), .dma (sendS k))
abbrev recvC (c : Dev nD) (k : Copy) : GSem nD τ sig := ((c : Thread nD τ), .dma (recvS k))

/-- What one copy adds to each of its two semaphores. -/
def amt (k : Copy) : ℕ := (src 0 k).view.dmaCredit
theorem amt_src (c : Dev nD) (k : Copy) : (src c k).view.dmaCredit = amt k := rfl
theorem amt_dst (c : Dev nD) (k : Copy) : (dst c k).view.dmaCredit = amt k := by cases k <;> rfl
theorem amt_pos (k : Copy) : 0 < amt k := View.dmaCredit_pos _ (by cases k <;> decide)

/-! ## What is handed over -/

/-- A part of the result buffer of `c`, held with share `q`, reading `f`. -/
def opts (c : Dev nD) (S : Finset OIdx) (q : PosShare TreeShare) (f : Blk F) : sProp 𝕄 :=
  (oM : Memref sig .tc .vmem S1024x1024 .bf16).view.loc (c : Thread nD τ) ↦[S]{q} f
/-- The place on `e` where the copy `k` of `c` lands, reading `g`. -/
def dpts (c : Dev nD) (k : Copy) (e : Dev nD) (g : Buf (Elt F) ((dst c k).view.loc (e : Thread nD τ))) : sProp 𝕄 :=
  (dst c k).view.loc (e : Thread nD τ) ↦[(dst c k).view.set]{fullShare} g
/-- The same with contents left open: what a device needs to start the copy `k`. -/
def slot (c : Dev nD) (k : Copy) : sProp 𝕄 := iprop(∃ g, dpts c k (peer c k) g)

/-- The copies whose landing also hands the piece they read to the receiver, who will write there later. -/
def giv : Copy → Bool
  | .k0 | .k1 | .k2 | .k3 | .k10 | .k11 | .k12 | .k13 => true
  | _ => false
/-- The share of the piece a copy reads while it runs: three copies of the same piece split it. -/
def shr : Copy → PosShare TreeShare
  | .k15 | .k6 => fullShare.left
  | .k16 | .k7 => fullShare.right.left
  | .k17 | .k8 => fullShare.right.right
  | _ => fullShare
theorem shr_of_giv {k : Copy} (h : giv k = true) : shr k = fullShare := by cases k <;> first | rfl | cases h

variable (X : Dev nD → Blk F)

/-- What has landed on `c` from its peer by the copy `k`: contents that read as the peer's piece did. -/
def landed (c : Dev nD) (k : Copy) : sProp 𝕄 :=
  iprop(∃ g, ⌜(dst (peer c k) k).view.read (Elt F) g = (src (peer c k) k).view.read (Elt F) (cont X (peer c k) k)⌝ ∗ dpts (peer c k) k c g)
/-- The piece the peer read, handed over with it. -/
def freed (c : Dev nD) (k : Copy) : sProp 𝕄 := iprop(∃ f, opts (peer c k) (piece (peer c k) k) fullShare f)

def sendPay (c : Dev nD) (k : Copy) : sProp 𝕄 := bif giv k then iprop(emp) else opts c (piece c k) (shr k) (cont X c k)
def recvPay (c : Dev nD) (k : Copy) : sProp 𝕄 := iprop(landed X c k ∗ bif giv k then freed c k else iprop(emp))
/-- What the neighbour across `j` hands over with its barrier signal: its two landing places for the copies coming from `c`. -/
def gate : Fin 5 → Copy × Copy := ![(.k0, .k11), (.k1, .k12), (.k2, .k13), (.k3, .k10), (.k4, .k14)]
def barPay (c : Dev nD) (j : Fin 5) : sProp 𝕄 := iprop(slot c (gate j).1 ∗ slot c (gate j).2)

instance opts_storable (c : Dev nD) (S q) (f : Blk F) : BI.Storable (upEmb : UEmb _ 𝕄) (opts c S q f) := by unfold opts; infer_instance
instance dpts_storable (c : Dev nD) (k : Copy) (e : Dev nD) (g : Buf (Elt F) ((dst c k).view.loc (e : Thread nD τ))) :
    BI.Storable (upEmb : UEmb _ 𝕄) (dpts c k e g) := by unfold dpts; infer_instance
instance slot_storable (c : Dev nD) (k : Copy) : BI.Storable (upEmb : UEmb _ 𝕄) (slot (F := F) c k) := by unfold slot; infer_instance
instance landed_storable (c : Dev nD) (k : Copy) : BI.Storable (upEmb : UEmb _ 𝕄) (landed X c k) := by unfold landed; infer_instance
instance freed_storable (c : Dev nD) (k : Copy) : BI.Storable (upEmb : UEmb _ 𝕄) (freed (F := F) c k) := by unfold freed; infer_instance
instance sendPay_storable (c : Dev nD) (k : Copy) : BI.Storable (upEmb : UEmb _ 𝕄) (sendPay X c k) := by
  unfold sendPay; cases giv k <;> dsimp only [cond] <;> infer_instance
instance recvPay_storable (c : Dev nD) (k : Copy) : BI.Storable (upEmb : UEmb _ 𝕄) (recvPay X c k) := by
  unfold recvPay; cases giv k <;> dsimp only [cond] <;> infer_instance
instance barPay_storable (c : Dev nD) (j : Fin 5) : BI.Storable (upEmb : UEmb _ 𝕄) (barPay (F := F) c j) := by unfold barPay; infer_instance

/-! ## The schedule: one round; five units on a barrier, one copy's amount on every other semaphore -/

def dutiesOf : Option Role → Finset (Fin 5)
  | none => ∅ | some none => Finset.univ | some (some _) => {0}
def amountOf : Option Role → ℕ
  | some (some (k, _)) => amt k | _ => 1
def payOf (c : Dev nD) (d : Fin 5) : Option Role → sProp 𝕄
  | none => iprop(emp) | some none => barPay c d
  | some (some (k, false)) => sendPay X c k | some (some (k, true)) => recvPay X c k

theorem amountOf_pos : ∀ i, 0 < amountOf i
  | none => Nat.one_pos | some none => Nat.one_pos | some (some (k, _)) => amt_pos k
instance payOf_storable (c : Dev nD) (d : Fin 5) : ∀ i, BI.Storable (upEmb : UEmb _ 𝕄) (payOf X c d i)
  | none => by unfold payOf; infer_instance | some none => by unfold payOf; infer_instance
  | some (some (k, false)) => by unfold payOf; infer_instance | some (some (k, true)) => by unfold payOf; infer_instance

def Rd : Rounds.Schedule (GSem nD τ sig) (Fin 5) 𝕄 where
  duties g r := if r = 0 ∧ g.1.2 = .tc then dutiesOf (which g.2) else ∅
  unitless _ := False
  amount g _ _ := amountOf (which g.2)
  payload g _ d := payOf X g.1.1 d (which g.2)
  amount_pos g _ _ _ := amountOf_pos _

instance Rd_storable (g : GSem nD τ sig) (r : ℕ) (d : Fin 5) : BI.Storable (upEmb : UEmb _ 𝕄) ((Rd X).payload g r d) := by
  show BI.Storable _ (payOf X g.1.1 d (which g.2)); infer_instance

section Facts
variable (c : Dev nD)

theorem duties_cell (i : Role) : (Rd X).duties (cell c i) 0 = dutiesOf (some i) := by
  dsimp only [Rd]; rw [which_semOf]; exact if_pos ⟨rfl, rfl⟩
theorem duties_later (g : GSem nD τ sig) : ∀ r, 1 ≤ r → (Rd X).duties g r = ∅ :=
  fun r hr => if_neg fun h => by omega
theorem amount_cell (i : Role) (d : Fin 5) : (Rd X).amount (cell c i) 0 d = amountOf (some i) := congrArg amountOf (which_semOf i)
theorem payload_cell (i : Role) (d : Fin 5) : (Rd X).payload (cell c i) 0 d = payOf X c d (some i) := congrArg (payOf X c d) (which_semOf i)

theorem duties_bar (d : Fin 5) : d ∈ (Rd X).duties (barC c) 0 := by
  rw [show barC c = cell c none from rfl, duties_cell]; exact Finset.mem_univ d
theorem duties_send (k : Copy) : (0 : Fin 5) ∈ (Rd X).duties (sendC c k) 0 := by
  rw [show sendC c k = cell c (some (k, false)) from rfl, duties_cell]; exact Finset.mem_singleton_self _
theorem duties_recv (k : Copy) : (0 : Fin 5) ∈ (Rd X).duties (recvC c k) 0 := by
  rw [show recvC c k = cell c (some (k, true)) from rfl, duties_cell]; exact Finset.mem_singleton_self _
theorem payload_send (k : Copy) : (Rd X).payload (sendC c k) 0 0 = sendPay X c k := by
  rw [show sendC c k = cell c (some (k, false)) from rfl]; exact payload_cell X c (some (k, false)) 0
theorem payload_recv (k : Copy) : (Rd X).payload (recvC c k) 0 0 = recvPay X c k := by
  rw [show recvC c k = cell c (some (k, true)) from rfl]; exact payload_cell X c (some (k, true)) 0
theorem payload_bar (d : Fin 5) : (Rd X).payload (barC c) 0 d = barPay c d := by
  rw [show barC c = cell c none from rfl]; exact payload_cell X c none d
theorem amount_send (k : Copy) : (Rd X).amount (sendC c k) 0 0 = amt k := by
  rw [show sendC c k = cell c (some (k, false)) from rfl]; exact amount_cell X c (some (k, false)) 0
theorem amount_recv (k : Copy) : (Rd X).amount (recvC c k) 0 0 = amt k := by
  rw [show recvC c k = cell c (some (k, true)) from rfl]; exact amount_cell X c (some (k, true)) 0
theorem amount_bar (d : Fin 5) : (Rd X).amount (barC c) 0 d = 1 := by
  rw [show barC c = cell c none from rfl]; exact amount_cell X c none d
/-- What a wait on each semaphore is for, -/
theorem expect_bar : (Rd X).expect (barC c) 0 = 5 := by
  unfold Schedule.expect Schedule.amountOf
  rw [show barC c = cell c none from rfl, duties_cell, Finset.sum_congr rfl fun d _ => amount_cell X c none d]; rfl
theorem expect_copy (k : Copy) (b : Bool) : (Rd X).expect (cell c (some (k, b))) 0 = amt k := by
  unfold Schedule.expect Schedule.amountOf
  rw [duties_cell]; exact (Finset.sum_singleton _ _).trans (amount_cell X c _ 0)
/-- and what it brings. -/
theorem rest_bar : bigSep ((Rd X).duties (barC c) 0 \ ∅) (fun d => (Rd X).payload (barC c) 0 d)
    = iprop(barPay c 0 ∗ barPay c 1 ∗ barPay c 2 ∗ barPay c 3 ∗ barPay c 4) := by
  rw [show barC c = cell c none from rfl, Finset.sdiff_empty, duties_cell, bigSep_congr fun d _ => payload_cell X c none d]
  show bigSep Finset.univ (fun d => barPay c d) = _
  rw [bigSep_univ_eq_bigSepL [0, 1, 2, 3, 4] (by decide) (by decide)]
  simp only [bigSepL_cons_cons, bigSepL_singleton]; rfl
theorem rest_send (k : Copy) : bigSep ((Rd X).duties (sendC c k) 0 \ ∅) (fun d => (Rd X).payload (sendC c k) 0 d) = sendPay X c k := by
  rw [show sendC c k = cell c (some (k, false)) from rfl, Finset.sdiff_empty, duties_cell]; exact bigSep_singleton.trans (payload_cell X c _ 0)
theorem rest_recv (k : Copy) : bigSep ((Rd X).duties (recvC c k) 0 \ ∅) (fun d => (Rd X).payload (recvC c k) 0 d) = recvPay X c k := by
  rw [show recvC c k = cell c (some (k, true)) from rfl, Finset.sdiff_empty, duties_cell]; exact bigSep_singleton.trans (payload_cell X c _ 0)

end Facts

/-! ## What each device owes, and the order of the waits -/

/-- The copies still to be started, owed to their receivers; -/
def owedS (c : Dev nD) : List Copy → CellTallies nD τ sig Unit
  | [] => 0
  | k :: l => owedS c l + tallyAt (recvC (peer c k) k) () (amt k)
/-- before them the barrier signals still to be given. -/
def owedB (c : Dev nD) : List (Fin 5) → CellTallies nD τ sig Unit
  | [] => owedS c copies
  | j :: l => owedB c l + tallyAt (barC (nbr c j)) () 1

/-- The phase in which a copy is started and awaited. -/
def phaseOf : Copy → ℕ
  | .k0 | .k1 | .k2 | .k10 => 0
  | .k3 | .k11 | .k12 | .k13 => 1
  | .k4 | .k14 => 2
  | .k5 | .k15 | .k16 | .k17 => 3
  | .k6 | .k7 | .k8 | .k19 => 4

def L (g : GSem nD τ sig) : Finset Unit := if g.1.2 = .tc then {()} else ∅
/-- Barriers come first, then the receivers' semaphores phase by phase; nobody owes the others. -/
def lvOf : Option Role → ℕ
  | some none => 1 | some (some (k, true)) => phaseOf k + 2 | _ => 0
def lv (g : GSem nD τ sig) (_ : Unit) : ℕ := lvOf (which g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Role) : lv (cell c i) () = lvOf (some i) := congrArg lvOf (which_semOf i)

theorem owedS_pos {c : Dev nD} {l : List Copy} {g : GSem nD τ sig} {u : Unit} (h : 0 < owedS c l g u) : ∃ k ∈ l, g = recvC (peer c k) k := by
  induction l with
  | nil => exact absurd h (Nat.lt_irrefl 0)
  | cons k l ih =>
    rw [owedS, Pi.add_apply, Finsupp.add_apply, tallyAt_apply] at h
    by_cases hg : g = recvC (peer c k) k ∧ u = ()
    · exact ⟨k, List.mem_cons_self, hg.1⟩
    · rw [if_neg hg] at h
      obtain ⟨k', hk', e⟩ := ih h
      exact ⟨k', List.mem_cons_of_mem _ hk', e⟩
theorem owedB_pos {c : Dev nD} {l : List (Fin 5)} {g : GSem nD τ sig} {u : Unit} (h : 0 < owedB c l g u) :
    (∃ k, g = recvC (peer c k) k) ∨ ∃ j, g = barC (nbr c j) := by
  induction l with
  | nil => obtain ⟨k, -, e⟩ := owedS_pos h; exact .inl ⟨k, e⟩
  | cons j l ih =>
    rw [owedB, Pi.add_apply, Finsupp.add_apply, tallyAt_apply] at h
    by_cases hg : g = barC (nbr c j) ∧ u = ()
    · exact .inr ⟨j, hg.1⟩
    · rw [if_neg hg] at h; exact ih h

/-- A device may wait on `sm` while it owes only copies whose level is above that of `sm`. -/
theorem mayWait_copies (c : Dev nD) (sm : SemLoc sig) (l : List Copy) (h : ∀ k ∈ l, lvOf (which sm) < phaseOf k + 2) :
    (levAts L lv : sProp 𝕄) ⊢ MayWait (c : Thread nD τ) sm () (owedS c l) :=
  MayOwe.of_cut (L := L) (lev := lv) (lvOf (which sm)) (fun p hp => by rw [Finset.mem_singleton.mp hp, L_tc]; exact Finset.mem_singleton_self _)
    (fun g u hg => by obtain ⟨k, -, rfl⟩ := owedS_pos hg; exact Finset.mem_singleton_self _)
    (fun p hp => by rw [Finset.mem_singleton.mp hp]; exact le_rfl)
    (fun g u hg => by obtain ⟨k, hk, rfl⟩ := owedS_pos hg; exact lt_of_lt_of_eq (h k hk) (lv_cell (peer c k) (some (k, true))).symm)

/-- At the launch a device may wait on any semaphore without a role: the staging of its blocks. -/
theorem mayWait_stage (c : Dev nD) (sm : SemLoc sig) (h : which sm = none) (l : List (Fin 5)) :
    (levAts L lv : sProp 𝕄) ⊢ MayWait (c : Thread nD τ) sm () (owedB c l) :=
  MayOwe.of_cut (L := L) (lev := lv) 0 (fun p hp => by rw [Finset.mem_singleton.mp hp, L_tc]; exact Finset.mem_singleton_self _)
    (fun g u hg => by rcases owedB_pos hg with ⟨k, rfl⟩ | ⟨j, rfl⟩ <;> exact Finset.mem_singleton_self _)
    (fun p hp => by rw [Finset.mem_singleton.mp hp]; show lvOf (which sm) ≤ 0; rw [h]; exact le_rfl)
    (fun g u hg => by
      rcases owedB_pos hg with ⟨k, rfl⟩ | ⟨j, rfl⟩
      · exact lt_of_lt_of_eq (Nat.succ_pos _) (lv_cell (peer c k) (some (k, true))).symm
      · exact lt_of_lt_of_eq Nat.one_pos (lv_cell (nbr c j) none).symm)

/-! ## What every device knows, and what one device holds for each copy -/

abbrev 𝒱₀ : Variants := Variants.none

/-- The invariants of all the semaphores, at the names `K`, and that each has reached its round. -/
def records (K : Dev nD × Role → ℕ) : sProp 𝕄 :=
  bigSep Finset.univ fun p : Dev nD × Role => iprop(cellInv ER (Rd X) (K p) (cell p.1 p.2) ∗ reached ER (cell p.1 p.2) 0)
instance records_persistent (K : Dev nD × Role → ℕ) : BI.Persistent (records X K) := by unfold records; infer_instance

theorem inv_at (K : Dev nD × Role → ℕ) (c : Dev nD) (i : Role) : records X K ⊢ cellInv ER (Rd X) (K (c, i)) (cell c i) :=
  (bigSep_elim (Finset.mem_univ (c, i))).trans (sep_and.trans and_elimL)
theorem reached_at (K : Dev nD × Role → ℕ) (c : Dev nD) (i : Role) : records X K ⊢ reached ER (cell c i) 0 :=
  (bigSep_elim (Finset.mem_univ (c, i))).trans (sep_and.trans and_elimR)
theorem inv_bar (K : Dev nD × Role → ℕ) (c : Dev nD) : records X K ⊢ cellInv ER (Rd X) (K (c, none)) (barC c) := inv_at X K c none
theorem inv_send (K : Dev nD × Role → ℕ) (c : Dev nD) (k : Copy) : records X K ⊢ cellInv ER (Rd X) (K (c, some (k, false))) (sendC c k) := inv_at X K c _
theorem inv_recv (K : Dev nD × Role → ℕ) (c : Dev nD) (k : Copy) : records X K ⊢ cellInv ER (Rd X) (K (c, some (k, true))) (recvC c k) := inv_at X K c _
theorem reached_bar (K : Dev nD × Role → ℕ) (c : Dev nD) : records X K ⊢ reached ER (barC c) 0 := reached_at X K c none
theorem reached_send (K : Dev nD × Role → ℕ) (c : Dev nD) (k : Copy) : records X K ⊢ reached ER (sendC c k) 0 := reached_at X K c (some (k, false))
theorem reached_recv (K : Dev nD × Role → ℕ) (c : Dev nD) (k : Copy) : records X K ⊢ reached ER (recvC c k) 0 := reached_at X K c (some (k, true))

/-- What a device owes, whatever it has waited for. -/
def owing (c : Dev nD) (O : CellTallies nD τ sig Unit) : sProp 𝕄 := iprop(∃ W, owes (c : Thread nD τ) O W)
/-- What `c` holds for the copy `k` before it is started: the right to count on its two semaphores, and that `c` has
    yet to wait on its own two; -/
def tok (c : Dev nD) (k : Copy) : sProp 𝕄 :=
  iprop(dutyTok ER (sendC c k) 0 0 ∗ dutyTok ER (recvC (peer c k) k) 0 0 ∗ atPos ER (sendC c k) 0 ∅ 0 ∗ atPos ER (recvC c k) 0 ∅ 0
    ∗ cred (tallyAt (recvC c k) () (amt k)))
/-- while it runs; -/
def mid (c : Dev nD) (k : Copy) : sProp 𝕄 :=
  iprop(cred (tallyAt (sendC c k) () (amt k)) ∗ atPos ER (sendC c k) 0 ∅ 0 ∗ atPos ER (recvC c k) 0 ∅ 0
    ∗ cred (tallyAt (recvC c k) () (amt k)))
/-- and after both waits: its two semaphores are back at zero. -/
def fin (c : Dev nD) (k : Copy) : sProp 𝕄 := iprop(semVal (sendC c k) 0 ∗ semVal (recvC c k) 0)

/-- Copies in a list, each in the same state. -/
def each (P : Copy → sProp 𝕄) : List Copy → sProp 𝕄
  | [] => iprop(emp)
  | k :: l => iprop(P k ∗ each P l)

/-- A device runs `p`, then ends in `Q`. -/
abbrev runs (c : Dev nD) {α : Type} (p : Pg F α) (Q : α → sProp 𝕄) : sProp 𝕄 :=
  wp frame (wpE (defs₀ (F := F)) 𝒱₀ (c : Thread nD τ) none) Set.univ p Q

end Cert.AllSum

end
-- ==== Proof.Moves.lean ====
/-
Starting a copy and awaiting it, as rules for the steps of one device.
-/
module

public import proofs.«01_k».proof.Proof.Schedule

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F)

/-! ## Running a list of steps -/

theorem seqs_cons (c : Dev nD) (p : Pg F PUnit) (ps : List (Pg F PUnit)) (Q : PUnit → sProp 𝕄) :
    runs c p (fun _ => runs c (seqs ps) Q) ⊢ runs c (seqs (p :: ps)) Q := by
  cases ps with
  | nil =>
    have e : seqs [p] = (p >>= fun _ => seqs ([] : List (Pg F PUnit))) := (Prog.bind_pure p).symm
    rw [e]; unfold runs; rw [wp_bind]
  | cons p' ps => show _ ⊢ runs c (p >>= fun _ => seqs (p' :: ps)) Q; unfold runs; rw [wp_bind]

/-- On `c`, whatever comes after them, the steps `l` turn `P` into `R`. -/
def Does (c : Dev nD) (P : sProp 𝕄) (l : List (Pg F PUnit)) (R : sProp 𝕄) : Prop :=
  ∀ (ps : List (Pg F PUnit)) (Q : PUnit → sProp 𝕄), P ⊢ iprop((R -∗ runs c (seqs ps) Q) -∗ runs c (seqs (l ++ ps)) Q)

theorem does_one {c : Dev nD} {P R : sProp 𝕄} {p : Pg F PUnit} (h : ∀ Q : PUnit → sProp 𝕄, P ⊢ iprop((R -∗ Q ⟨⟩) -∗ runs c p Q)) :
    Does c P [p] R := fun ps Q => by
  iintro HP HQ
  iapply (seqs_cons c p ps Q)
  iapply (h fun _ => runs c (seqs ps) Q) $$ HP HQ
theorem does_cons {c : Dev nD} {P R : sProp 𝕄} {p : Pg F PUnit} (h : Does c P [p] R) (ps : List (Pg F PUnit)) (Q : PUnit → sProp 𝕄) :
    P ⊢ iprop((R -∗ runs c (seqs ps) Q) -∗ runs c (seqs (p :: ps)) Q) := h ps Q
theorem does_nil (c : Dev nD) (P : sProp 𝕄) : Does c P [] P := fun ps Q => by
  iintro HP HQ; iapply HQ; iexact HP
/-- One list of steps after another. -/
theorem does_append {c : Dev nD} {P R T : sProp 𝕄} {l l' : List (Pg F PUnit)} (h : Does c P l R) (h' : Does c R l' T) : Does c P (l ++ l') T := fun ps Q => by
  rw [List.append_assoc]
  iintro HP HQ
  iapply (h (l' ++ ps) Q) $$ HP
  iintro HR
  iapply (h' ps Q) $$ HR HQ
/-- What the steps do not touch stays. -/
theorem does_frame {c : Dev nD} {P R : sProp 𝕄} {l : List (Pg F PUnit)} (h : Does c P l R) (E : sProp 𝕄) : Does c iprop(P ∗ E) l iprop(R ∗ E) := fun ps Q => by
  iintro ⟨HP, HE⟩ HQ
  iapply (h ps Q) $$ HP
  iintro HR; iapply HQ; isplitl [HR] <;> iassumption
theorem does_mono {c : Dev nD} {P P' R R' : sProp 𝕄} {l : List (Pg F PUnit)} (h : Does c P l R) (hP : P' ⊢ P) (hR : R ⊢ R') : Does c P' l R' := fun ps Q => by
  iintro HP HQ
  ihave HP' := hP $$ HP
  iapply (h ps Q) $$ HP'
  iintro HR
  ihave HR' := hR $$ HR
  iapply HQ; iexact HR'

/-! ## Starting and awaiting copies -/

/-- The invariants, the reached rounds and the levels: what every device knows throughout. -/
def know (K : Dev nD × Role → ℕ) : sProp 𝕄 := iprop(records X K ∗ levAts L lv)
instance know_persistent (K : Dev nD × Role → ℕ) : BI.Persistent (know X K) := by unfold know; infer_instance

variable (K : Dev nD × Role → ℕ)

/-- The piece a copy of `c` is about to read. -/
def ready (c : Dev nD) (k : Copy) : sProp 𝕄 := opts c (piece c k) (shr k) (cont X c k)

theorem opts_eq_src_at (d c : Dev nD) (k : Copy) (q : PosShare TreeShare) (f : Blk F) :
    opts c (piece d k) q f = ((src d k).view.loc (c : Thread nD τ) ↦[(src d k).view.set]{q} f : sProp 𝕄) := by
  rw [src_set]; rfl
theorem opts_eq_src (c : Dev nD) (k : Copy) (q : PosShare TreeShare) (f : Blk F) :
    opts c (piece c k) q f = ((src c k).view.loc (c : Thread nD τ) ↦[(src c k).view.set]{q} f : sProp 𝕄) := by
  rw [src_set]; rfl

/-- What a copy of `c` leaves for its sender and for its receiver is what their semaphores promise. -/
theorem pay_send (c : Dev nD) (k : Copy) :
    (bif giv k then iprop(emp) else ((src c k).view.loc (c : Thread nD τ) ↦[(src c k).view.set]{shr k} cont X c k : sProp 𝕄)) ⊢ (Rd X).payload (sendC c k) 0 0 := by
  rw [payload_send]; unfold sendPay; rw [opts_eq_src]
theorem pay_recv (c : Dev nD) (k : Copy) (g : Buf (Elt F) ((dst c k).view.loc (peer c k : Thread nD τ))) :
    (bif giv k
      then iprop(((dst c k).view.loc (peer c k : Thread nD τ) ↦[(dst c k).view.set]{fullShare}
          (dst c k).view.write (Elt F) g ((src c k).view.read (Elt F) (cont X c k)) Finset.univ)
        ∗ ((src c k).view.loc (c : Thread nD τ) ↦[(src c k).view.set]{shr k} cont X c k))
      else ((dst c k).view.loc (peer c k : Thread nD τ) ↦[(dst c k).view.set]{fullShare}
          (dst c k).view.write (Elt F) g ((src c k).view.read (Elt F) (cont X c k)) Finset.univ) : sProp 𝕄)
      ⊢ (Rd X).payload (recvC (peer c k) k) 0 0 := by
  rw [payload_recv]; unfold recvPay landed freed
  rw [peer_peer]
  cases hg : giv k <;> dsimp only [cond]
  · iintro H
    isplitl [H]
    · iexists ((dst c k).view.write (Elt F) g ((src c k).view.read (Elt F) (cont X c k)) Finset.univ); isplitr; · (ipureintro; exact View.read_write_univ _ _)
      unfold dpts; iexact H
    · iempintro
  · rw [shr_of_giv hg]
    iintro ⟨H, Hs⟩
    isplitl [H]
    · iexists ((dst c k).view.write (Elt F) g ((src c k).view.read (Elt F) (cont X c k)) Finset.univ); isplitr; · (ipureintro; exact View.read_write_univ _ _)
      unfold dpts; iexact H
    · iexists _; rw [opts_eq_src]; iexact Hs

/-- The library's rule for an addressed copy, at two views of a device's own memory: the piece read goes with the landing
    (`b`) or comes back to the sender (not `b`). -/
theorem send_any (c n : Dev nD) {s : Shape} (u v : Memref sig .tc .vmem s .bf16) (sS sR : DmaSem sig) {hsc : v.view.ref.isScScratch = false}
    {hsrc : u.view.WordExact} {hdst : v.view.WordExact}
    {hsem : DmaTarget.Typed .vmem (.dma sR) (.remote (Dev.tc n : Thread nD τ) v (.dma sS) hsc)}
    (b : Bool) (q : PosShare TreeShare) (fs : Buf (Elt F) (u.view.loc (c : Thread nD τ))) (g : Buf (Elt F) (v.view.loc (n : Thread nD τ)))
    (κ₁ κ₂ N : ℕ) (hN : v.view.dmaCredit = N)
    (hd₁ : (0 : Fin 5) ∈ (Rd X).duties ((c : Thread nD τ), .dma sS) 0) (hd₂ : (0 : Fin 5) ∈ (Rd X).duties ((n : Thread nD τ), .dma sR) 0)
    (hk₁ : (Rd X).amount ((c : Thread nD τ), .dma sS) 0 0 = N) (hk₂ : (Rd X).amount ((n : Thread nD τ), .dma sR) 0 0 = N)
    (hp₁ : (bif b then iprop(emp) else (u.view.loc (c : Thread nD τ) ↦[u.view.set]{q} fs : sProp 𝕄)) ⊢ (Rd X).payload ((c : Thread nD τ), .dma sS) 0 0)
    (hp₂ : (bif b then iprop((v.view.loc (n : Thread nD τ) ↦[v.view.set]{fullShare} v.view.write (Elt F) g (u.view.read (Elt F) fs) Finset.univ)
          ∗ (u.view.loc (c : Thread nD τ) ↦[u.view.set]{q} fs))
        else (v.view.loc (n : Thread nD τ) ↦[v.view.set]{fullShare} v.view.write (Elt F) g (u.view.read (Elt F) fs) Finset.univ) : sProp 𝕄)
      ⊢ (Rd X).payload ((n : Thread nD τ), .dma sR) 0 0)
    (O : CellTallies nD τ sig Unit) (W : Waits sig Unit) (Q : PUnit → sProp 𝕄) :
    iprop(cellInv ER (Rd X) κ₁ ((c : Thread nD τ), .dma sS) ∗ cellInv ER (Rd X) κ₂ ((n : Thread nD τ), .dma sR)
        ∗ (u.view.loc (c : Thread nD τ) ↦[u.view.set]{q} fs) ∗ (v.view.loc (n : Thread nD τ) ↦[v.view.set]{fullShare} g)
        ∗ owes (c : Thread nD τ) (O + tallyAt ((n : Thread nD τ), .dma sR) () N) W
        ∗ dutyTok ER ((c : Thread nD τ), .dma sS) 0 0 ∗ reached ER ((c : Thread nD τ), .dma sS) 0
        ∗ dutyTok ER ((n : Thread nD τ), .dma sR) 0 0 ∗ reached ER ((n : Thread nD τ), .dma sR) 0)
      ⊢ iprop(((cred (tallyAt ((c : Thread nD τ), .dma sS) () N) ∗ owes (c : Thread nD τ) O W) -∗ runs c (.ret ⟨⟩) Q)
        -∗ runs c (.op (.enqueueDma u (.remote (Dev.tc n : Thread nD τ) v (.dma sS) hsc) (.dma sR) hsrc hdst hsem) .ret) Q) := by
  iintro ⟨H1, H2, H3, H4, H5⟩
  iapply (Rounds.wp_send_bif 𝒱₀ ER (Rd X) (c : Thread nD τ) none b (κ₁ := κ₁) (κ₂ := κ₂) hd₁ hd₂ () () N
    (show v.view.amount (.dma sR) = N from hN) hk₁ hk₂ O rfl (W := W) hp₁ hp₂)
  isplitl [H1]; · iexact H1
  isplitl [H2]; · iexact H2
  isplitl [H3]; · iexact H3
  isplitl [H4]; · iapply (pointsTo_writeUpdate (n : Thread nD τ) (v := v.view) subset_rfl); iexact H4
  iexact H5

/-- Starting one copy: it takes the piece to be read and the place to be written. -/
theorem send_at (c n : Dev nD) (k : Copy) (l : List Copy) (hn : n = peer c k) {hsc : (dst c k).view.ref.isScScratch = false}
    {hsrc : (src c k).view.WordExact} {hdst : (dst c k).view.WordExact}
    {hsem : DmaTarget.Typed .vmem (.dma (recvS k)) (.remote (Dev.tc n : Thread nD τ) (dst c k) (.dma (sendS k)) hsc)}
    (Q : PUnit → sProp 𝕄) :
    iprop(know X K ∗ tok c k ∗ ready X c k ∗ slot c k ∗ owing c (owedS c (k :: l)))
      ⊢ iprop(((mid c k ∗ owing c (owedS c l)) -∗ Q ⟨⟩)
        -∗ runs c (.op (.enqueueDma (src c k) (.remote (Dev.tc n : Thread nD τ) (dst c k) (.dma (sendS k)) hsc) (.dma (recvS k)) hsrc hdst hsem) .ret) Q) := by
  subst hn
  unfold know tok ready slot owing dpts
  rw [opts_eq_src]
  iintro ⟨⟨#HR, #HL⟩, ⟨Ht1, Ht2, Ha1, Ha2, Hc⟩, Hs, ⟨%g, Hd⟩, ⟨%W, HO⟩⟩ HQ
  iapply (send_any X c (peer c k) (src c k) (dst c k) (sendS k) (recvS k) (giv k) (shr k) (cont X c k) g (K (c, some (k, false))) (K (peer c k, some (k, true)))
    (amt k) (amt_dst c k) (duties_send X c k) (duties_recv X (peer c k) k) (amount_send X c k) (amount_recv X (peer c k) k)
    (pay_send X c k) (pay_recv X c k g) (owedS c l) W Q) $$ [Hs Hd HO Ht1 Ht2]
  · isplitr; · iapply (inv_send X K c k); iexact HR
    isplitr; · iapply (inv_recv X K (peer c k) k); iexact HR
    isplitl [Hs]; · iexact Hs
    isplitl [Hd]; · iexact Hd
    isplitl [HO]; · iexact HO
    isplitl [Ht1]; · iexact Ht1
    isplitr; · iapply (reached_send X K c k); iexact HR
    isplitl [Ht2]; · iexact Ht2
    iapply (reached_recv X K (peer c k) k); iexact HR
  iintro ⟨HcS, HO⟩
  unfold runs; rw [wp_ret]; imodintro
  iapply HQ
  unfold mid
  isplitr [HO]
  · isplitl [HcS]; · iexact HcS
    isplitl [Ha1]; · iexact Ha1
    isplitl [Ha2] <;> iassumption
  · iexists W; iexact HO

theorem send_one (c : Dev nD) (k : Copy) (l : List Copy) :
    Does c iprop(know X K ∗ tok c k ∗ ready X c k ∗ slot c k ∗ owing c (owedS c (k :: l))) [send c k] iprop(mid c k ∗ owing c (owedS c l)) :=
  does_one fun Q => send_at X K c (tgt c k) k l (tgt_eq c k) Q

/-- Awaiting one copy: both semaphores are back at zero, and what they promised is there. -/
theorem await_one (c : Dev nD) (k : Copy) (l : List Copy) (hl : ∀ k' ∈ l, phaseOf k < phaseOf k') :
    Does c iprop(know X K ∗ mid c k ∗ owing c (owedS c l)) [await c k]
      iprop(fin c k ∗ sendPay X c k ∗ recvPay X c k ∗ owing c (owedS c l)) := does_one fun Q => by
  unfold know mid owing await
  iintro ⟨⟨#HR, #HL⟩, ⟨HcS, Ha1, Ha2, Hc⟩, ⟨%W, HO⟩⟩ HQ
  ihave #HI1 := (inv_send X K c k) $$ HR
  ihave #HI2 := (inv_recv X K c k) $$ HR
  iapply (Rounds.wp_wait_rest_token 𝒱₀ ER (Rd X) (c : Thread nD τ) none (κ := K (c, some (k, false)))
      (wpE_waitDma2_eq 𝒱₀ (c : Thread nD τ) none Set.univ) (Set.mem_univ _) () (O := owedS c l) (W := W) (R := 0) (m := 0) (T := ∅)
      (by rw [Nat.zero_add]; exact (amt_src c k).trans (expect_copy X c k false).symm)) $$ [HcS HO Ha1]
  · isplitr; · iexact HI1
    isplitl [HcS]; · iexact HcS
    isplitl [HO]; · iexact HO
    isplitr; · iapply (mayWait_copies c (.dma (sendS k)) l fun k' _ => by rw [show SemLoc.dma (sendS k) = semOf (some (k, false)) from rfl, which_semOf]; exact Nat.succ_pos _); iexact HL
    iexact Ha1
  iintro ⟨HO, Ha1, -, Hp1⟩
  ihave Hp1 := (Entails.of_eq (rest_send X c k)) $$ Hp1
  iapply (Rounds.wp_wait_rest_token 𝒱₀ ER (Rd X) (c : Thread nD τ) none (κ := K (c, some (k, true)))
      (wpE_waitDma2_eq 𝒱₀ (c : Thread nD τ) none Set.univ) (Set.mem_univ _) () (O := owedS c l) (R := 0) (m := 0) (T := ∅)
      (by rw [Nat.zero_add]; exact (amt_dst c k).trans (expect_copy X c k true).symm)) $$ [Hc HO Ha2]
  · isplitr; · iexact HI2
    isplitl [Hc]; · rw [amt_dst]; iexact Hc
    isplitl [HO]; · iexact HO
    isplitr; · iapply (mayWait_copies c (.dma (recvS k)) l fun k' hk' => by rw [show SemLoc.dma (recvS k) = semOf (some (k, true)) from rfl, which_semOf]; exact Nat.add_lt_add_right (hl k' hk') 2); iexact HL
    iexact Ha2
  iintro ⟨HO, Ha2, -, Hp2⟩
  ihave Hp2 := (Entails.of_eq (rest_recv X c k)) $$ Hp2
  rw [wp_ret]
  imod (Rounds.cell_close ER (Rd X) (Set.mem_univ (K (c, some (k, false)))) (fun h => h) (R := 0 + 1) (duties_later X (sendC c k))) $$ [Ha1] with Hz1
  · isplitr; · iexact HI1
    iexact Ha1
  imod (Rounds.cell_close ER (Rd X) (Set.mem_univ (K (c, some (k, true)))) (fun h => h) (R := 0 + 1) (duties_later X (recvC c k))) $$ [Ha2] with Hz2
  · isplitr; · iexact HI2
    iexact Ha2
  imodintro
  iapply HQ
  unfold fin
  isplitl [Hz1 Hz2]
  · isplitl [Hz1] <;> iassumption
  isplitl [Hp1]; · iexact Hp1
  isplitl [Hp2]; · iexact Hp2
  iexists _; iexact HO

/-- Starting the copies of a list, one after the other. -/
theorem send_list (c : Dev nD) (l : List Copy) : ∀ ls : List Copy,
    Does c iprop(know X K ∗ each (tok c) ls ∗ each (ready X c) ls ∗ each (slot c) ls ∗ owing c (owedS c (ls ++ l))) (ls.map (send c))
      iprop(each (mid c) ls ∗ owing c (owedS c l))
  | [] => does_mono (does_nil c (owing c (owedS c l))) (by iintro ⟨-, -, -, -, H⟩; iexact H) (by iintro H; unfold each; isplitr; · iempintro
                                                                                                 iexact H)
  | k :: ls => fun ps Q => by
    show _ ⊢ iprop(_ -∗ runs c (seqs (send c k :: (ls.map (send c) ++ ps))) Q)
    unfold each
    iintro ⟨#HK, ⟨Ht, Hts⟩, ⟨Hr, Hrs⟩, ⟨Hs, Hss⟩, HO⟩ HQ
    iapply (does_cons (send_one X K c k (ls ++ l)) (ls.map (send c) ++ ps) Q) $$ [Ht Hr Hs HO]
    · isplitr; · iexact HK
      isplitl [Ht]; · iexact Ht
      isplitl [Hr]; · iexact Hr
      isplitl [Hs]; · iexact Hs
      iexact HO
    iintro ⟨Hm, HO⟩
    iapply (send_list c l ls ps Q) $$ [Hts Hrs Hss HO]
    · isplitr; · iexact HK
      isplitl [Hts]; · iexact Hts
      isplitl [Hrs]; · iexact Hrs
      isplitl [Hss] <;> iassumption
    iintro ⟨Hms, HO⟩
    iapply HQ
    isplitr [HO]
    · isplitl [Hm] <;> iassumption
    iexact HO

/-- Awaiting the copies of a list, one after the other. -/
theorem await_list (c : Dev nD) (l : List Copy) : ∀ ls : List Copy, (∀ k ∈ ls, ∀ k' ∈ l, phaseOf k < phaseOf k') →
    Does c iprop(know X K ∗ each (mid c) ls ∗ owing c (owedS c l)) (ls.map (await c))
      iprop(each (fin c) ls ∗ each (sendPay X c) ls ∗ each (recvPay X c) ls ∗ owing c (owedS c l))
  | [], _ => does_mono (does_nil c (owing c (owedS c l))) (by iintro ⟨-, -, H⟩; iexact H) (by
      iintro H; unfold each
      isplitr; · iempintro
      isplitr; · iempintro
      isplitr; · iempintro
      iexact H)
  | k :: ls, h => fun ps Q => by
    show _ ⊢ iprop(_ -∗ runs c (seqs (await c k :: (ls.map (await c) ++ ps))) Q)
    unfold each
    iintro ⟨#HK, ⟨Hm, Hms⟩, HO⟩ HQ
    iapply (does_cons (await_one X K c k l (h k List.mem_cons_self)) (ls.map (await c) ++ ps) Q) $$ [Hm HO]
    · isplitr; · iexact HK
      isplitl [Hm] <;> iassumption
    iintro ⟨Hf, Hp, Hr, HO⟩
    iapply (await_list c l ls (fun k hk => h k (List.mem_cons_of_mem _ hk)) ps Q) $$ [Hms HO]
    · isplitr; · iexact HK
      isplitl [Hms] <;> iassumption
    iintro ⟨Hfs, Hps, Hrs, HO⟩
    iapply HQ
    isplitl [Hf Hfs]; · isplitl [Hf] <;> iassumption
    isplitl [Hp Hps]; · isplitl [Hp] <;> iassumption
    isplitl [Hr Hrs]; · isplitl [Hr] <;> iassumption
    iexact HO

end Cert.AllSum

end
-- ==== Proof.Adds.lean ====
/-
Adding what has landed into the result buffer.
-/
module

public import proofs.«01_k».proof.Proof.Moves
public import Idealize.ShloMosaic.Lib.Pipeline.Value

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F)

/-! ## Loads and stores through rectangles -/

/-- The rectangle of a result buffer at `o` with sides `s`. -/
abbrev orect (o s : Fin 2 → ℕ) (h : ∀ a, o a + s a ≤ S1024x1024.size a) : Rect S1024x1024 := Rect.unit (s := S1024x1024) o s h
/-- The rectangle of a landing buffer. -/
abbrev srect (o s : Fin 2 → ℕ) (h : ∀ a, o a + s a ≤ S1024x512.size a) : Rect S1024x512 := Rect.unit (s := S1024x512) o s h

/-- A load through a rectangle of any buffer reads what the view of the rectangle reads. -/
theorem load_mem (c : Dev nD) {s₀ : Shape} (M : Memref sig .tc .vmem s₀ .bf16) (r : Rect s₀) (S : Finset (Idx ((M.access r : View sig .tc _ _ _).loc (c : Thread nD τ))))
    (hS : (M.access r : View sig .tc _ _ _).set ⊆ S) {hl : M.view.LoadsAt r.toLoadRect} (q : PosShare TreeShare)
    (f : Buf (Elt F) ((M.access r : View sig .tc _ _ _).loc (c : Thread nD τ)))
    {α : Type} (kk : (r.shape.Idx → Elt F .bf16) → Pg F α) (Q : α → sProp 𝕄) :
    ((M.access r : View sig .tc _ _ _).loc (c : Thread nD τ) ↦[S]{q} f)
      ⊢ iprop((((M.access r : View sig .tc _ _ _).loc (c : Thread nD τ) ↦[S]{q} f) -∗ runs c (kk ((M.access r : View sig .tc _ _ _).read (Elt F) f)) Q)
        -∗ runs c (.op (.load M r.toLoadRect hl) kk) Q) :=
  wp_load_rect 𝒱₀ (c : Thread nD τ) none Set.univ (m := M) (r := r) hS

/-- A store of a whole rectangle writes through the view of the rectangle. -/
theorem store_mem (c : Dev nD) {s₀ : Shape} (M : Memref sig .tc .vmem s₀ .bf16) (r : Rect s₀) (S : Finset (Idx ((M.access r : View sig .tc _ _ _).loc (c : Thread nD τ))))
    (hS : (M.access r : View sig .tc _ _ _).set ⊆ S) {hl hm}
    (f : Buf (Elt F) ((M.access r : View sig .tc _ _ _).loc (c : Thread nD τ))) (w : r.shape.Idx → Elt F .bf16) (Q : PUnit → sProp 𝕄) :
    ((M.access r : View sig .tc _ _ _).loc (c : Thread nD τ) ↦[S]{fullShare} f)
      ⊢ iprop((((M.access r : View sig .tc _ _ _).loc (c : Thread nD τ) ↦[S]{fullShare} (M.access r : View sig .tc _ _ _).write (Elt F) f w Finset.univ) -∗ Q ⟨⟩)
        -∗ runs c (.op (.store M r w Finset.univ hl hm) .ret) Q) := by
  iintro H HQ
  iapply (wp_store 𝒱₀ (c : Thread nD τ) none Set.univ (m := M) (r := r) (Mk := Finset.univ) (S := S)
    (Finset.Subset.trans (View.setOn_subset_set _ _) hS)) $$ H
  iintro H
  rw [wp_ret]; imodintro
  iapply HQ; iexact H

theorem opts_access (c : Dev nD) (S : Finset OIdx) (q : PosShare TreeShare) (f : Blk F) (r : Rect S1024x1024) :
    opts c S q f = ((oM.access r : View sig .tc _ _ _).loc (c : Thread nD τ) ↦[S]{q} f : sProp 𝕄) := rfl

theorem load_out (c : Dev nD) {o s : Fin 2 → ℕ} {h : ∀ a, o a + s a ≤ S1024x1024.size a} {S : Finset OIdx} (hS : (orect o s h).set = S)
    {hl : (oM : Memref sig .tc .vmem S1024x1024 .bf16).view.LoadsAt (orect o s h).toLoadRect} (q : PosShare TreeShare) (f : Blk F)
    {α : Type} (kk : ((⟨2, s⟩ : Shape).Idx → Elt F .bf16) → Pg F α) (Q : α → sProp 𝕄) :
    opts c S q f ⊢ iprop((opts c S q f -∗ runs c (kk fun x => f ((orect o s h).emb x)) Q)
      -∗ runs c (.op (.load oM (orect o s h).toLoadRect hl) kk) Q) := by
  rw [opts_access c S q f (orect o s h)]
  exact load_mem c oM (orect o s h) S (subset_of_eq ((set_piece h).trans hS)) q f kk Q

theorem store_out (c : Dev nD) {o s : Fin 2 → ℕ} {h : ∀ a, o a + s a ≤ S1024x1024.size a} {S : Finset OIdx} (hS : (orect o s h).set = S)
    {hl hm} (f g : Blk F) (w : (⟨2, s⟩ : Shape).Idx → Elt F .bf16) (hw : ∀ x, w x = g ((orect o s h).emb x))
    (Q : PUnit → sProp 𝕄) :
    opts c S fullShare f ⊢ iprop((opts c S fullShare g -∗ Q ⟨⟩)
      -∗ runs c (.op (.store oM (orect o s h) w Finset.univ hl hm) .ret) Q) := by
  have hg : opts c S fullShare g = (opts c S fullShare ((oM.access (orect o s h) : View sig .tc _ _ _).write (Elt F) f w Finset.univ) : sProp 𝕄) := by
    unfold opts
    exact (pointsTo_congr fun i hi => write_piece h f g w hw i (hS ▸ hi)).symm
  rw [hg, opts_access c S fullShare f (orect o s h), opts_access c S fullShare _ (orect o s h)]
  exact store_mem c oM (orect o s h) S (subset_of_eq ((set_piece h).trans hS)) f w Q

/-- A place in the landing buffer `M` of `c` that reads `v`. -/
def held (c : Dev nD) (M : Memref sig .tc .vmem S1024x512 .bf16) (r : Rect S1024x512) (v : r.shape.Idx → Elt F .bf16) : sProp 𝕄 :=
  iprop(∃ g, ⌜(M.access r : View sig .tc _ _ _).read (Elt F) g = v⌝
    ∗ ((M.access r : View sig .tc _ _ _).loc (c : Thread nD τ) ↦[(M.access r : View sig .tc _ _ _).set]{fullShare} g))

theorem load_held (c : Dev nD) (M : Memref sig .tc .vmem S1024x512 .bf16) (r : Rect S1024x512) (v : r.shape.Idx → Elt F .bf16)
    {hl : M.view.LoadsAt r.toLoadRect} {α : Type} (kk : (r.shape.Idx → Elt F .bf16) → Pg F α) (Q : α → sProp 𝕄) :
    held c M r v ⊢ iprop((held c M r v -∗ runs c (kk v) Q) -∗ runs c (.op (.load M r.toLoadRect hl) kk) Q) := by
  unfold held
  iintro ⟨%g, %hg, H⟩ HQ
  subst hg
  iapply (load_mem c M r _ (Finset.Subset.refl _)) $$ H
  iintro H
  iapply HQ
  iexists g; isplitr; · (ipureintro; rfl)
  iexact H

/-- What has landed by the copy `k`, as a place in a landing buffer: it reads the elements of the peer's contents in the
    rectangle the peer sent. -/
theorem landed_eq (c : Dev nD) (k : Copy) (M : Memref sig .tc .vmem S1024x512 .bf16) (o : Fin 2 → ℕ) (h : ∀ a, o a + sz k a ≤ S1024x512.size a)
    (hd : dst (peer c k) k = M.slice (srect o (sz k) h) (fun _ => rfl))
    (o' : Fin 2 → ℕ) (e : off (peer c k) k = o') (h' : ∀ a, o' a + sz k a ≤ S1024x1024.size a) :
    landed X c k = held c M (srect o (sz k) h) (fun x => cont X (peer c k) k ((orect o' (sz k) h').emb x)) := by
  unfold landed dpts
  rw [hd, show (src (peer c k) k).view.read (Elt F) (cont X (peer c k) k) = fun x => cont X (peer c k) k ((orect o' (sz k) h').emb x) from
    read_piece e (off_inb (peer c k) k) h' (cont X (peer c k) k)]
  rfl

/-! ## Adding into the result buffer -/

/-- One landed piece is added to the piece the result buffer holds. -/
theorem add_one (c : Dev nD) (M : Memref sig .tc .vmem S1024x512 .bf16) {o o₀ s : Fin 2 → ℕ} {h : ∀ a, o a + s a ≤ S1024x1024.size a}
    {h₀ : ∀ a, o₀ a + s a ≤ S1024x512.size a} {S : Finset OIdx} (hS : (orect o s h).set = S)
    (pay : FVec F ⟨2, s⟩ .bf16 → FVec F ⟨2, s⟩ .bf16 → FVec F ⟨2, s⟩ .bf16) (hpay : ∀ v w, pay v w = addf v w)
    {h1 h2 h3 h4 h5} (f g : Blk F) (Q : PUnit → sProp 𝕄) :
    iprop(opts c S fullShare f ∗ held c M (srect o₀ s h₀) (fun x => g ((orect o s h).emb x)))
      ⊢ iprop(((opts c S fullShare (addf f g) ∗ held c M (srect o₀ s h₀) (fun x => g ((orect o s h).emb x))) -∗ Q ⟨⟩)
        -∗ runs c (.op (.load oM (orect o s h).toLoadRect h1) fun v : (⟨2, s⟩ : Shape).Idx → Elt F .bf16 => .op (.load M (srect o₀ s h₀).toLoadRect h2) fun w : (⟨2, s⟩ : Shape).Idx → Elt F .bf16 =>
          .op (.load oM (orect o s h).toLoadRect h3) fun _ => .op (.store oM (orect o s h) (pay v w) Finset.univ h4 h5) .ret) Q) := by
  iintro ⟨Ho, H0⟩ HQ
  iapply (load_out c hS fullShare f) $$ Ho; iintro Ho
  iapply (load_held c M (srect o₀ s h₀)) $$ H0; iintro H0
  iapply (load_out c hS fullShare f) $$ Ho; iintro Ho
  iapply (store_out c hS f (addf f g) _ (fun x => by rw [hpay]; rfl)) $$ Ho
  iintro Ho
  iapply HQ
  isplitl [Ho] <;> iassumption

/-- Three landed pieces are added, one after the other. -/
theorem add_three (c : Dev nD) (M : Memref sig .tc .vmem S1024x512 .bf16) {o o₀ o₁ o₂ s : Fin 2 → ℕ} {h : ∀ a, o a + s a ≤ S1024x1024.size a}
    {h₀ : ∀ a, o₀ a + s a ≤ S1024x512.size a} {h₁ : ∀ a, o₁ a + s a ≤ S1024x512.size a} {h₂ : ∀ a, o₂ a + s a ≤ S1024x512.size a}
    {S : Finset OIdx} (hS : (orect o s h).set = S)
    (pay : FVec F ⟨2, s⟩ .bf16 → FVec F ⟨2, s⟩ .bf16 → FVec F ⟨2, s⟩ .bf16 → FVec F ⟨2, s⟩ .bf16 → FVec F ⟨2, s⟩ .bf16)
    (hpay : ∀ v w₀ w₁ w₂, pay v w₀ w₁ w₂ = addf (addf (addf v w₀) w₁) w₂)
    {p1 p2 p3 p4 p5 p6 p7} (f g₀ g₁ g₂ : Blk F) (Q : PUnit → sProp 𝕄) :
    iprop(opts c S fullShare f ∗ held c M (srect o₀ s h₀) (fun x => g₀ ((orect o s h).emb x))
        ∗ held c M (srect o₁ s h₁) (fun x => g₁ ((orect o s h).emb x)) ∗ held c M (srect o₂ s h₂) (fun x => g₂ ((orect o s h).emb x)))
      ⊢ iprop(((opts c S fullShare (addf (addf (addf f g₀) g₁) g₂) ∗ held c M (srect o₀ s h₀) (fun x => g₀ ((orect o s h).emb x))
          ∗ held c M (srect o₁ s h₁) (fun x => g₁ ((orect o s h).emb x)) ∗ held c M (srect o₂ s h₂) (fun x => g₂ ((orect o s h).emb x))) -∗ Q ⟨⟩)
        -∗ runs c (.op (.load oM (orect o s h).toLoadRect p1) fun v : (⟨2, s⟩ : Shape).Idx → Elt F .bf16 => .op (.load M (srect o₀ s h₀).toLoadRect p2) fun w₀ : (⟨2, s⟩ : Shape).Idx → Elt F .bf16 =>
          .op (.load M (srect o₁ s h₁).toLoadRect p3) fun w₁ : (⟨2, s⟩ : Shape).Idx → Elt F .bf16 => .op (.load M (srect o₂ s h₂).toLoadRect p4) fun w₂ : (⟨2, s⟩ : Shape).Idx → Elt F .bf16 =>
          .op (.load oM (orect o s h).toLoadRect p5) fun _ => .op (.store oM (orect o s h) (pay v w₀ w₁ w₂) Finset.univ p6 p7) .ret) Q) := by
  iintro ⟨Ho, H0, H1, H2⟩ HQ
  iapply (load_out c hS fullShare f) $$ Ho; iintro Ho
  iapply (load_held c M (srect o₀ s h₀)) $$ H0; iintro H0
  iapply (load_held c M (srect o₁ s h₁)) $$ H1; iintro H1
  iapply (load_held c M (srect o₂ s h₂)) $$ H2; iintro H2
  iapply (load_out c hS fullShare f) $$ Ho; iintro Ho
  iapply (store_out c hS f (addf (addf (addf f g₀) g₁) g₂) _ (fun x => by rw [hpay]; rfl)) $$ Ho
  iintro Ho
  iapply HQ
  isplitl [Ho]; · iexact Ho
  isplitl [H0]; · iexact H0
  isplitl [H1] <;> iassumption

/-! ## The six additions -/

theorem pay2_eq (v w₀ w₁ w₂ : FVec F S256x512 .bf16) : k0_pay2 v w₀ w₁ w₂ = addf (addf (addf v w₀) w₁) w₂ := by
  unfold k0_pay2; rw [shapeCast_self]
theorem pay3_eq (v w : FVec F S512x512 .bf16) : k0_pay3 v w = addf v w := by unfold k0_pay3; rw [shapeCast_self]
theorem pay4_eq (v w : FVec F S128x512 .bf16) : k0_pay4 v w = addf v w := by unfold k0_pay4; rw [shapeCast_self]
theorem pay5_eq (v w₀ w₁ w₂ : FVec F S128x512 .bf16) : k0_pay5 v w₀ w₁ w₂ = addf (addf (addf v w₀) w₁) w₂ := by
  unfold k0_pay5; rw [shapeCast_self]
theorem pay6_eq (v w : FVec F S128x512 .bf16) : k0_pay6 v w = addf v w := by unfold k0_pay6; rw [shapeCast_self]
theorem pay78_eq (v w : FVec F S128x512 .bf16) : k0_pay8 (k0_pay7 v) w = addf v w := by unfold k0_pay8 k0_pay7; rw [shapeCast_self]

theorem addA1_one (c : Dev nD) :
    Does c iprop(opts c (piece c .k6) fullShare (X c) ∗ landed X c .k0 ∗ landed X c .k1 ∗ landed X c .k2) [addA1 c]
      iprop(opts c (piece c .k6) fullShare (A1 X c) ∗ landed X c .k0 ∗ landed X c .k1 ∗ landed X c .k2) := by
  rw [landed_eq X c .k0 aM ![0, 0] inb_S1024x512_S256x512_0_0 rfl _ (off5_eq c).1 (k0_off5_inb c),
    landed_eq X c .k1 aM ![256, 0] inb_S1024x512_S256x512_256_0 rfl _ (off5_eq c).2.1 (k0_off5_inb c),
    landed_eq X c .k2 aM ![512, 0] inb_S1024x512_S256x512_512_0 rfl _ (off5_eq c).2.2.1 (k0_off5_inb c)]
  exact does_one fun Q => add_three c aM (s := S256x512.size) (rect_set c .k6 (off5_eq c).2.2.2 (k0_off5_inb c)) k0_pay2 pay2_eq (X c) (X (nbr c 0)) (X (nbr c 1)) (X (nbr c 2)) Q

theorem addB1_one (c : Dev nD) :
    Does c iprop(opts c (piece c .k19) fullShare (X c) ∗ landed X c .k10) [addB1 c]
      iprop(opts c (piece c .k19) fullShare (B1 X c) ∗ landed X c .k10) := by
  rw [landed_eq X c .k10 bM ![0, 0] inb_S1024x512_S512x512_0_0 rfl _ (off6_eq c).1 (k0_off6_inb c)]
  exact does_one fun Q => add_one c bM (s := S512x512.size) (rect_set c .k19 (off6_eq c).2 (k0_off6_inb c)) k0_pay3 pay3_eq (X c) (X (nbr c 3)) Q

theorem addA2_one (c : Dev nD) :
    Does c iprop(opts c (piece c .k5) fullShare (A1 X c) ∗ landed X c .k3) [addA2 c]
      iprop(opts c (piece c .k5) fullShare (A2 X c) ∗ landed X c .k3) := by
  rw [landed_eq X c .k3 aM ![768, 0] inb_S1024x512_S128x512_768_0 rfl _ (off11_eq c).1 (k0_off11_inb c)]
  exact does_one fun Q => add_one c aM (s := S128x512.size) (rect_set c .k5 (off11_eq c).2.2 (k0_off11_inb c)) k0_pay4 pay4_eq (A1 X c) (A1 X (nbr c 3)) Q

theorem addB2_one (c : Dev nD) :
    Does c iprop(opts c (piece c .k15) fullShare (B1 X c) ∗ landed X c .k11 ∗ landed X c .k12 ∗ landed X c .k13) [addB2 c]
      iprop(opts c (piece c .k15) fullShare (B2 X c) ∗ landed X c .k11 ∗ landed X c .k12 ∗ landed X c .k13) := by
  rw [landed_eq X c .k11 bM ![512, 0] inb_S1024x512_S128x512_512_0 rfl _ (off12_eq c).1 (k0_off12_inb c),
    landed_eq X c .k12 bM ![640, 0] inb_S1024x512_S128x512_640_0 rfl _ (off12_eq c).2.1 (k0_off12_inb c),
    landed_eq X c .k13 bM ![768, 0] inb_S1024x512_S128x512_768_0 rfl _ (off12_eq c).2.2.1 (k0_off12_inb c)]
  exact does_one fun Q => add_three c bM (s := S128x512.size) (rect_set c .k15 (off12_eq c).2.2.2.2 (k0_off12_inb c)) k0_pay5 pay5_eq (B1 X c) (B1 X (nbr c 0)) (B1 X (nbr c 1)) (B1 X (nbr c 2)) Q

theorem addA3_one (c : Dev nD) :
    Does c iprop(opts c (piece c .k5) fullShare (A2 X c) ∗ landed X c .k4) [addA3 c]
      iprop(opts c (piece c .k5) fullShare (A3 X c) ∗ landed X c .k4) := by
  rw [landed_eq X c .k4 aM ![896, 0] inb_S1024x512_S128x512_896_0 rfl _ (off11_eq c).2.1 (k0_off11_inb c)]
  exact does_one fun Q => add_one c aM (s := S128x512.size) (rect_set c .k5 (off11_eq c).2.2 (k0_off11_inb c)) k0_pay6 pay6_eq (A2 X c) (A2 X (nbr c 4)) Q

theorem addB3_one (c : Dev nD) :
    Does c iprop(opts c (piece c .k15) fullShare (B2 X c) ∗ landed X c .k14) [addB3 c]
      iprop(opts c (piece c .k15) fullShare (B3 X c) ∗ landed X c .k14) := by
  rw [landed_eq X c .k14 bM ![896, 0] inb_S1024x512_S128x512_896_0 rfl _ (off12_eq c).2.2.2.1 (k0_off12_inb c)]
  exact does_one fun Q => add_one c bM (s := S128x512.size) (rect_set c .k15 (off12_eq c).2.2.2.2 (k0_off12_inb c)) (fun v w => k0_pay8 (k0_pay7 v) w) pay78_eq (B2 X c) (B2 X (nbr c 4)) Q

end Cert.AllSum

end
-- ==== Proof.Phases.lean ====
/-
What each of the five exchanges does to the state of one device.
-/
module

public import proofs.«01_k».proof.Proof.Adds

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : Dev nD × Role → ℕ)

theorem recv_giv (c : Dev nD) {k : Copy} (h : giv k = true) : recvPay X c k = iprop(landed X c k ∗ freed c k) := by
  unfold recvPay; rw [h]; rfl
theorem recv_keep (c : Dev nD) {k : Copy} (h : giv k = false) : recvPay X c k = iprop(landed X c k ∗ emp) := by
  unfold recvPay; rw [h]; rfl
theorem send_keep (c : Dev nD) {k : Copy} (h : giv k = false) : sendPay X c k = ready X c k := by
  unfold sendPay; rw [h]; rfl

/-- What the first exchange and its additions do. -/
theorem phase0_does (c : Dev nD) (l : List Copy) (hl : ∀ k' ∈ l, 0 < phaseOf k') :
    Does c iprop(know X K ∗ each (tok c) L0 ∗ each (ready X c) L0 ∗ each (slot c) L0 ∗ opts c (piece c .k6) fullShare (X c)
        ∗ opts c (piece c .k19) fullShare (X c) ∗ owing c (owedS c (L0 ++ l))) (phase0 c)
      iprop(each (fin c) L0 ∗ each (freed c) L0 ∗ each (landed X c) L0 ∗ opts c (piece c .k6) fullShare (A1 X c)
        ∗ opts c (piece c .k19) fullShare (B1 X c) ∗ owing c (owedS c l)) := fun ps Q => by
  show _ ⊢ iprop(_ -∗ runs c (seqs (L0.map (send c) ++ ([Copy.k0, Copy.k1, Copy.k2].map (await c) ++ ([addA1 c] ++ ([Copy.k10].map (await c) ++ ([addB1 c] ++ ps)))))) Q)
  iintro ⟨#HK, Ht, Hr, Hs, HA, HB, HO⟩ HQ
  iapply (send_list X K c l L0 _ Q) $$ [Ht Hr Hs HO]
  · isplitr; · iexact HK
    isplitl [Ht]; · iexact Ht
    isplitl [Hr]; · iexact Hr
    isplitl [Hs] <;> iassumption
  simp only [L0, each]
  iintro ⟨⟨M0, M1, M2, M10, -⟩, HO⟩
  iapply (await_list X K c l [.k0, .k1, .k2] (fun k hk k' hk' => by
    rw [show phaseOf k = 0 by fin_cases hk <;> rfl]; exact hl k' hk') _ Q) $$ [M0 M1 M2 HO]
  · isplitr; · iexact HK
    simp only [each]
    isplitr [HO]
    · isplitl [M0]; · iexact M0
      isplitl [M1]; · iexact M1
      isplitl [M2]; · iexact M2
      iempintro
    · iexact HO
  simp only [each]; rw [recv_giv X c (k := .k0) rfl, recv_giv X c (k := .k1) rfl, recv_giv X c (k := .k2) rfl]
  iintro ⟨⟨F0, F1, F2, -⟩, -, ⟨⟨D0, E0⟩, ⟨D1, E1⟩, ⟨D2, E2⟩, -⟩, HO⟩
  iapply (addA1_one X c _ Q) $$ [HA D0 D1 D2]
  · isplitl [HA]; · iexact HA
    isplitl [D0]; · iexact D0
    isplitl [D1] <;> iassumption
  iintro ⟨HA, D0, D1, D2⟩
  iapply (await_list X K c l [.k10] (fun k hk k' hk' => by
    rw [show phaseOf k = 0 by fin_cases hk <;> rfl]; exact hl k' hk') _ Q) $$ [M10 HO]
  · isplitr; · iexact HK
    simp only [each]
    isplitr [HO]
    · isplitl [M10]; · iexact M10
      iempintro
    · iexact HO
  simp only [each]; rw [recv_giv X c (k := .k10) rfl]
  iintro ⟨⟨F10, -⟩, -, ⟨⟨D10, E10⟩, -⟩, HO⟩
  iapply (addB1_one X c _ Q) $$ [HB D10]
  · isplitl [HB] <;> iassumption
  iintro ⟨HB, D10⟩
  iapply HQ
  isplitl [F0 F1 F2 F10]
  · isplitl [F0]; · iexact F0
    isplitl [F1]; · iexact F1
    isplitl [F2]; · iexact F2
    isplitl [F10]; · iexact F10
    iempintro
  isplitl [E0 E1 E2 E10]
  · isplitl [E0]; · iexact E0
    isplitl [E1]; · iexact E1
    isplitl [E2]; · iexact E2
    isplitl [E10]; · iexact E10
    iempintro
  isplitl [D0 D1 D2 D10]
  · isplitl [D0]; · iexact D0
    isplitl [D1]; · iexact D1
    isplitl [D2]; · iexact D2
    isplitl [D10]; · iexact D10
    iempintro
  isplitl [HA]; · iexact HA
  isplitl [HB] <;> iassumption

/-- What the second exchange and its additions do. -/
theorem phase1_does (c : Dev nD) (l : List Copy) (hl : ∀ k' ∈ l, 1 < phaseOf k') :
    Does c iprop(know X K ∗ each (tok c) L1 ∗ each (ready X c) L1 ∗ each (slot c) L1 ∗ opts c (piece c .k5) fullShare (A1 X c)
        ∗ opts c (piece c .k15) fullShare (B1 X c) ∗ owing c (owedS c (L1 ++ l))) (phase1 c)
      iprop(each (fin c) L1 ∗ each (freed c) L1 ∗ each (landed X c) L1 ∗ opts c (piece c .k5) fullShare (A2 X c)
        ∗ opts c (piece c .k15) fullShare (B2 X c) ∗ owing c (owedS c l)) := fun ps Q => by
  show _ ⊢ iprop(_ -∗ runs c (seqs (L1.map (send c) ++ ([Copy.k3].map (await c) ++ ([addA2 c] ++ ([Copy.k11, Copy.k12, Copy.k13].map (await c) ++ ([addB2 c] ++ ps)))))) Q)
  iintro ⟨#HK, Ht, Hr, Hs, HA, HB, HO⟩ HQ
  iapply (send_list X K c l L1 _ Q) $$ [Ht Hr Hs HO]
  · isplitr; · iexact HK
    isplitl [Ht]; · iexact Ht
    isplitl [Hr]; · iexact Hr
    isplitl [Hs] <;> iassumption
  simp only [L1, each]
  iintro ⟨⟨M3, M11, M12, M13, -⟩, HO⟩
  iapply (await_list X K c l [.k3] (fun k hk k' hk' => by
    rw [show phaseOf k = 1 by fin_cases hk <;> rfl]; exact hl k' hk') _ Q) $$ [M3 HO]
  · isplitr; · iexact HK
    simp only [each]
    isplitr [HO]
    · isplitl [M3]; · iexact M3
      iempintro
    · iexact HO
  simp only [each]; rw [recv_giv X c (k := .k3) rfl]
  iintro ⟨⟨F3, -⟩, -, ⟨⟨D3, E3⟩, -⟩, HO⟩
  iapply (addA2_one X c _ Q) $$ [HA D3]
  · isplitl [HA] <;> iassumption
  iintro ⟨HA, D3⟩
  iapply (await_list X K c l [.k11, .k12, .k13] (fun k hk k' hk' => by
    rw [show phaseOf k = 1 by fin_cases hk <;> rfl]; exact hl k' hk') _ Q) $$ [M11 M12 M13 HO]
  · isplitr; · iexact HK
    simp only [each]
    isplitr [HO]
    · isplitl [M11]; · iexact M11
      isplitl [M12]; · iexact M12
      isplitl [M13]; · iexact M13
      iempintro
    · iexact HO
  simp only [each]; rw [recv_giv X c (k := .k11) rfl, recv_giv X c (k := .k12) rfl, recv_giv X c (k := .k13) rfl]
  iintro ⟨⟨F11, F12, F13, -⟩, -, ⟨⟨D11, E11⟩, ⟨D12, E12⟩, ⟨D13, E13⟩, -⟩, HO⟩
  iapply (addB2_one X c _ Q) $$ [HB D11 D12 D13]
  · isplitl [HB]; · iexact HB
    isplitl [D11]; · iexact D11
    isplitl [D12] <;> iassumption
  iintro ⟨HB, D11, D12, D13⟩
  iapply HQ
  isplitl [F3 F11 F12 F13]
  · isplitl [F3]; · iexact F3
    isplitl [F11]; · iexact F11
    isplitl [F12]; · iexact F12
    isplitl [F13]; · iexact F13
    iempintro
  isplitl [E3 E11 E12 E13]
  · isplitl [E3]; · iexact E3
    isplitl [E11]; · iexact E11
    isplitl [E12]; · iexact E12
    isplitl [E13]; · iexact E13
    iempintro
  isplitl [D3 D11 D12 D13]
  · isplitl [D3]; · iexact D3
    isplitl [D11]; · iexact D11
    isplitl [D12]; · iexact D12
    isplitl [D13]; · iexact D13
    iempintro
  isplitl [HA]; · iexact HA
  isplitl [HB] <;> iassumption

theorem ready_k4 (c : Dev nD) : ready X c .k4 = opts c (piece c .k5) fullShare (A2 X c) := rfl
theorem ready_k14 (c : Dev nD) : ready X c .k14 = opts c (piece c .k15) fullShare (B2 X c) := rfl

/-- What the third exchange and its additions do: the pieces sent come back to the sender, and the own blocks are final. -/
theorem phase2_does (c : Dev nD) (l : List Copy) (hl : ∀ k' ∈ l, 2 < phaseOf k') :
    Does c iprop(know X K ∗ each (tok c) L2 ∗ opts c (piece c .k5) fullShare (A2 X c) ∗ opts c (piece c .k15) fullShare (B2 X c)
        ∗ each (slot c) L2 ∗ owing c (owedS c (L2 ++ l))) (phase2 c)
      iprop(each (fin c) L2 ∗ each (landed X c) L2 ∗ opts c (piece c .k5) fullShare (A3 X c)
        ∗ opts c (piece c .k15) fullShare (B3 X c) ∗ owing c (owedS c l)) := fun ps Q => by
  show _ ⊢ iprop(_ -∗ runs c (seqs (L2.map (send c) ++ ([Copy.k4].map (await c) ++ ([addA3 c] ++ ([Copy.k14].map (await c) ++ ([addB3 c] ++ ps)))))) Q)
  iintro ⟨#HK, Ht, HA, HB, Hs, HO⟩ HQ
  iapply (send_list X K c l L2 _ Q) $$ [Ht HA HB Hs HO]
  · isplitr; · iexact HK
    isplitl [Ht]; · iexact Ht
    isplitl [HA HB]
    · simp only [L2, each]
      rw [ready_k4 X c, ready_k14 X c]
      isplitl [HA]; · iexact HA
      isplitl [HB]; · iexact HB
      iempintro
    isplitl [Hs] <;> iassumption
  simp only [L2, each]
  iintro ⟨⟨M4, M14, -⟩, HO⟩
  iapply (await_list X K c l [.k4] (fun k hk k' hk' => by
    rw [show phaseOf k = 2 by fin_cases hk <;> rfl]; exact hl k' hk') _ Q) $$ [M4 HO]
  · isplitr; · iexact HK
    simp only [each]
    isplitr [HO]
    · isplitl [M4]; · iexact M4
      iempintro
    · iexact HO
  simp only [each]; rw [recv_keep X c (k := .k4) rfl, send_keep X c (k := .k4) rfl, ready_k4 X c]
  iintro ⟨⟨F4, -⟩, ⟨HA, -⟩, ⟨⟨D4, -⟩, -⟩, HO⟩
  iapply (addA3_one X c _ Q) $$ [HA D4]
  · isplitl [HA] <;> iassumption
  iintro ⟨HA, D4⟩
  iapply (await_list X K c l [.k14] (fun k hk k' hk' => by
    rw [show phaseOf k = 2 by fin_cases hk <;> rfl]; exact hl k' hk') _ Q) $$ [M14 HO]
  · isplitr; · iexact HK
    simp only [each]
    isplitr [HO]
    · isplitl [M14]; · iexact M14
      iempintro
    · iexact HO
  simp only [each]; rw [recv_keep X c (k := .k14) rfl, send_keep X c (k := .k14) rfl, ready_k14 X c]
  iintro ⟨⟨F14, -⟩, ⟨HB, -⟩, ⟨⟨D14, -⟩, -⟩, HO⟩
  iapply (addB3_one X c _ Q) $$ [HB D14]
  · isplitl [HB] <;> iassumption
  iintro ⟨HB, D14⟩
  iapply HQ
  isplitl [F4 F14]
  · isplitl [F4]; · iexact F4
    isplitl [F14]; · iexact F14
    iempintro
  isplitl [D4 D14]
  · isplitl [D4]; · iexact D4
    isplitl [D14]; · iexact D14
    iempintro
  isplitl [HA]; · iexact HA
  isplitl [HB] <;> iassumption

/-- Payloads of copies that give nothing away: the sender has its pieces back, the receiver what has landed. -/
theorem each_keep (c : Dev nD) : ∀ ls : List Copy, (∀ k ∈ ls, giv k = false) →
    iprop(each (sendPay X c) ls ∗ each (recvPay X c) ls) ⊢ iprop(each (ready X c) ls ∗ each (landed X c) ls)
  | [], _ => by unfold each; iintro -; isplitl [] <;> iempintro
  | k :: ls, h => by
    unfold each
    rw [send_keep X c (h k List.mem_cons_self), recv_keep X c (h k List.mem_cons_self)]
    iintro ⟨⟨Hs, Hss⟩, ⟨Hr, -⟩, Hrs⟩
    ihave H := (each_keep c ls fun k hk => h k (List.mem_cons_of_mem _ hk)) $$ [Hss Hrs]
    · isplitl [Hss] <;> iassumption
    icases H with ⟨Hss, Hrs⟩
    isplitl [Hs Hss]; · isplitl [Hs] <;> iassumption
    isplitl [Hr] <;> iassumption

/-- An exchange without additions: all copies are started, then all are awaited. -/
theorem gather_does (c : Dev nD) (ls l : List Copy) (hl : ∀ k ∈ ls, ∀ k' ∈ l, phaseOf k < phaseOf k') (hg : ∀ k ∈ ls, giv k = false) :
    Does c iprop(know X K ∗ each (tok c) ls ∗ each (ready X c) ls ∗ each (slot c) ls ∗ owing c (owedS c (ls ++ l))) (ls.map (send c) ++ ls.map (await c))
      iprop(each (fin c) ls ∗ each (ready X c) ls ∗ each (landed X c) ls ∗ owing c (owedS c l)) := fun ps Q => by
  rw [List.append_assoc]
  iintro ⟨#HK, Ht, Hr, Hs, HO⟩ HQ
  iapply (send_list X K c l ls _ Q) $$ [Ht Hr Hs HO]
  · isplitr; · iexact HK
    isplitl [Ht]; · iexact Ht
    isplitl [Hr]; · iexact Hr
    isplitl [Hs] <;> iassumption
  iintro ⟨Hm, HO⟩
  iapply (await_list X K c l ls hl _ Q) $$ [Hm HO]
  · isplitr; · iexact HK
    isplitl [Hm] <;> iassumption
  iintro ⟨Hf, Hp, Hr, HO⟩
  ihave H := (each_keep X c ls hg) $$ [Hp Hr]
  · isplitl [Hp] <;> iassumption
  icases H with ⟨Hp, Hr⟩
  iapply HQ
  isplitl [Hf]; · iexact Hf
  isplitl [Hp]; · iexact Hp
  isplitl [Hr] <;> iassumption

theorem phase3_does (c : Dev nD) (l : List Copy) (hl : ∀ k' ∈ l, 3 < phaseOf k') :
    Does c iprop(know X K ∗ each (tok c) L3 ∗ each (ready X c) L3 ∗ each (slot c) L3 ∗ owing c (owedS c (L3 ++ l))) (phase3 c)
      iprop(each (fin c) L3 ∗ each (ready X c) L3 ∗ each (landed X c) L3 ∗ owing c (owedS c l)) :=
  gather_does X K c L3 l (fun k hk k' hk' => by rw [show phaseOf k = 3 by fin_cases hk <;> rfl]; exact hl k' hk') (fun k hk => by fin_cases hk <;> rfl)
theorem phase4_does (c : Dev nD) :
    Does c iprop(know X K ∗ each (tok c) L4 ∗ each (ready X c) L4 ∗ each (slot c) L4 ∗ owing c (owedS c (L4 ++ []))) (phase4 c)
      iprop(each (fin c) L4 ∗ each (ready X c) L4 ∗ each (landed X c) L4 ∗ owing c (owedS c [])) :=
  gather_does X K c L4 [] (fun k hk k' hk' => by cases hk') (fun k hk => by fin_cases hk <;> rfl)

end Cert.AllSum

end
-- ==== Proof.Regions.lean ====
/-
Cutting the result buffer into the pieces that move, and putting it together again.
-/
module

public import proofs.«01_k».proof.Proof.Moves

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F)

/-! ## The result buffer in parts -/

theorem eq_of_both {P Q : sProp 𝕄} (h : P ⊣⊢ Q) : P = Q := equiv_iff.mp ⟨h.1, h.2⟩

/-- Several parts of the result buffer of `c`, each reading `f`. -/
def parts (c : Dev nD) (q : PosShare TreeShare) (f : Blk F) : List (Finset OIdx) → sProp 𝕄
  | [] => iprop(emp)
  | S :: l => iprop(opts c S q f ∗ parts c q f l)

/-- A part of the result buffer is the parts it is cut into. -/
theorem opts_parts (c : Dev nD) (q : PosShare TreeShare) (f : Blk F) : ∀ {l : List (Finset OIdx)} {U : Finset OIdx}
    (_ : ∀ i, i ∈ U ↔ ∃ S ∈ l, i ∈ S) (_ : l.Pairwise fun S T => ∀ i ∈ S, i ∉ T), opts c U q f = parts c q f l
  | [], U, hU, _ => by
    have : U = ∅ := Finset.eq_empty_of_forall_notMem fun i hi => by obtain ⟨S, hS, -⟩ := (hU i).mp hi; cases hS
    subst this; exact pointsTo_empty
  | S :: l, U, hU, hd => by
    rw [List.pairwise_cons] at hd
    have e : U = S ∪ U \ S := by
      rw [Finset.union_sdiff_of_subset]; exact fun i hi => (hU i).mpr ⟨S, List.mem_cons_self, hi⟩
    rw [parts, ← opts_parts c q f (U := U \ S) (l := l) (fun i => by
      rw [Finset.mem_sdiff, hU]
      constructor
      · rintro ⟨⟨T, hT, hi⟩, hn⟩
        rcases List.mem_cons.mp hT with rfl | hT
        · exact absurd hi hn
        · exact ⟨T, hT, hi⟩
      · rintro ⟨T, hT, hi⟩
        exact ⟨⟨T, List.mem_cons_of_mem _ hT, hi⟩, fun h => hd.1 T hT i h hi⟩) hd.2]
    conv_lhs => rw [e]
    unfold opts; exact eq_of_both (pointsTo_union Finset.disjoint_sdiff)

theorem opts_congr (c : Dev nD) (q : PosShare TreeShare) {S : Finset OIdx} {f g : Blk F} (h : ∀ i ∈ S, f i = g i) :
    opts c S q f = (opts c S q g : sProp 𝕄) := pointsTo_congr h

/-- The left half of the columns is the four quarters, the right half the two halves of the rows. -/
theorem split_all (c : Dev nD) (f : Blk F) : opts c Finset.univ fullShare f
    = parts c fullShare f [piece c .k0, piece c .k1, piece c .k2, piece c .k10, piece c .k6, piece c .k19] := by
  have h0 := fq_nbr0 c; have h1 := fq_nbr1 c; have h2 := fq_nbr2 c; have h3 := hb_nbr3 c; have := fq_lt c; have := hb_lt c
  refine opts_parts c _ f (fun i => ?_) ?_
  · have := row_lt i; have := col_lt i
    simp only [List.mem_cons, List.not_mem_nil, or_false, exists_eq_or_imp, exists_eq_left, piece, mem_qA, mem_hB, Finset.mem_univ, true_iff]
    omega
  · simp only [List.pairwise_cons, List.mem_cons, List.not_mem_nil, or_false, forall_eq_or_imp, forall_eq, piece, mem_qA, mem_hB,
      IsEmpty.forall_iff, implies_true, and_true, List.Pairwise.nil]
    refine ⟨?_, ?_, ?_, ?_, ?_⟩ <;> (repeat' apply And.intro) <;> intro i hi hj <;> omega

/-- A quarter of the left half is its two blocks. -/
theorem split_A (c : Dev nD) (f : Blk F) : opts c (piece c .k6) fullShare f = parts c fullShare f [piece c .k3, piece c .k5] := by
  have h3 := hb_nbr3 c; have := hb_lt c
  refine opts_parts c _ f (fun i => ?_) ?_
  · simp only [List.mem_cons, List.not_mem_nil, or_false, exists_eq_or_imp, exists_eq_left, piece, mem_qA, mem_pA]
    omega
  · simp only [List.pairwise_cons, List.mem_cons, List.not_mem_nil, or_false, forall_eq, piece, mem_pA,
      IsEmpty.forall_iff, implies_true, and_true, List.Pairwise.nil]
    intro i hi hj; omega
/-- Half the rows of the right half is its four blocks. -/
theorem split_B (c : Dev nD) (f : Blk F) : opts c (piece c .k19) fullShare f
    = parts c fullShare f [piece c .k11, piece c .k12, piece c .k13, piece c .k15] := by
  have h0 := fq_nbr0 c; have h1 := fq_nbr1 c; have h2 := fq_nbr2 c; have := fq_lt c; have := hb_lt c
  refine opts_parts c _ f (fun i => ?_) ?_
  · simp only [List.mem_cons, List.not_mem_nil, or_false, exists_eq_or_imp, exists_eq_left, piece, mem_hB, mem_pB]
    omega
  · simp only [List.pairwise_cons, List.mem_cons, List.not_mem_nil, or_false, forall_eq_or_imp, forall_eq, piece, mem_pB,
      IsEmpty.forall_iff, implies_true, and_true, List.Pairwise.nil]
    refine ⟨?_, ?_, ?_⟩ <;> (repeat' apply And.intro) <;> intro i hi hj <;> omega

/-- Three copies of one piece read it together. -/
theorem share_three (c : Dev nD) (S : Finset OIdx) (f : Blk F) : opts c S fullShare f
    = iprop(opts c S fullShare.left f ∗ opts c S fullShare.right.left f ∗ opts c S fullShare.right.right f) := by
  have h1 : opts c S fullShare f = iprop(opts c S fullShare.left f ∗ opts c S fullShare.right f) := by
    unfold opts; exact eq_of_both (pointsTo_share (PosShare.mem_left_op_right fullShare))
  have h2 : opts c S fullShare.right f = iprop(opts c S fullShare.right.left f ∗ opts c S fullShare.right.right f) := by
    unfold opts; exact eq_of_both (pointsTo_share (PosShare.mem_left_op_right fullShare.right))
  rw [h1, h2]

/-! ## Landing in the result buffer -/

theorem eq_of_read (e : Dev nD) (k : Copy) (f g : Blk F) (h : (src e k).view.read (Elt F) f = (src e k).view.read (Elt F) g) :
    ∀ i ∈ piece e k, f i = g i := fun i hi => by
  rw [← src_set] at hi
  obtain ⟨x, -, rfl⟩ := Finset.mem_map.mp hi
  exact congrFun h x

/-- A copy that lands where it was read from leaves the peer's piece in the result buffer. -/
theorem landed_out (c : Dev nD) (k : Copy) (hd : dst (peer c k) k = src (peer c k) k) :
    landed X c k ⊢ opts c (piece (peer c k) k) fullShare (cont X (peer c k) k) := by
  unfold landed dpts
  rw [hd]
  iintro ⟨%g, %hg, H⟩
  ihave H' := (Entails.of_eq (opts_eq_src_at (peer c k) c k fullShare g).symm) $$ H
  iapply (Entails.of_eq (opts_congr c fullShare (eq_of_read (peer c k) k g (cont X (peer c k) k) hg)))
  iexact H'

/-- A piece handed over by the peer is the place for a later copy that is read from the same place. -/
theorem slot_of_freed (c : Dev nD) (k k' : Copy) (hax : ax k' = ax k) (hd : dst c k' = src c k') (hp : piece (peer c k) k = piece c k') :
    freed (F := F) c k ⊢ slot c k' := by
  unfold freed slot dpts peer
  rw [hd, hax, hp]
  iintro ⟨%f, H⟩
  iexists f
  ihave H' := (Entails.of_eq (opts_eq_src_at c (peer c k) k' fullShare f)) $$ H
  iexact H'

end Cert.AllSum

end
-- ==== Proof.Entry.lean ====
/-
The handshake between neighbours, the landing places handed over by it, and the first fill of the result buffer.
-/
module

public import proofs.«01_k».proof.Proof.Phases
public import proofs.«01_k».proof.Proof.Regions

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : Dev nD × Role → ℕ)

/-! ## The landing buffers, cut into the places of the copies -/

/-- The place on `c` where the peer's copy `k` lands, contents left open. -/
def own (c : Dev nD) (k : Copy) : sProp 𝕄 := slot (peer c k) k
theorem own_eq (c : Dev nD) (k : Copy) : own (F := F) c k = iprop(∃ g, dpts (peer c k) k c g) := by
  unfold own slot; rw [peer_peer]
theorem own_of_landed (c : Dev nD) (k : Copy) : landed X c k ⊢ own c k := by
  rw [own_eq]; unfold landed
  iintro ⟨%g, -, H⟩
  iexists g; iexact H

/-- A part of a buffer of `c`, contents left open. -/
def hold (c : Dev nD) (b : Ref sig .tc) (S : Finset (Idx ((c : Thread nD τ).loc b))) : sProp 𝕄 :=
  iprop(∃ f : Buf (Elt F) ((c : Thread nD τ).loc b), (c : Thread nD τ).loc b ↦[S]{fullShare} f)
def holds (c : Dev nD) (b : Ref sig .tc) : List (Finset (Idx ((c : Thread nD τ).loc b))) → sProp 𝕄
  | [] => iprop(emp)
  | S :: l => iprop(hold c b S ∗ holds c b l)

theorem hold_union (c : Dev nD) (b : Ref sig .tc) {S T : Finset (Idx ((c : Thread nD τ).loc b))} (h : Disjoint S T) :
    hold (F := F) c b (S ∪ T) = iprop(hold c b S ∗ hold c b T) := by
  refine eq_of_both ⟨?_, ?_⟩
  · unfold hold
    iintro ⟨%f, H⟩
    ihave H := (pointsTo_union h).1 $$ H
    icases H with ⟨H1, H2⟩
    isplitl [H1]
    · iexists f; iexact H1
    · iexists f; iexact H2
  · unfold hold
    iintro ⟨⟨%f, H1⟩, ⟨%g, H2⟩⟩
    iexists (T.piecewise g f)
    iapply (pointsTo_join h) $$ [H1 H2]
    isplitl [H1] <;> iassumption

/-- A part that begins where the one before ends, and so on to the whole buffer. -/
theorem hold_parts (c : Dev nD) (b : Ref sig .tc) : ∀ (l : List (Finset (Idx ((c : Thread nD τ).loc b)))) (T U : Finset (Idx ((c : Thread nD τ).loc b)))
    (_ : ∀ i, i ∈ U ↔ i ∈ T ∨ ∃ S ∈ l, i ∈ S) (_ : (T :: l).Pairwise fun S T => ∀ i ∈ S, i ∉ T), hold (F := F) c b U = holds c b (l ++ [T])
  | [], T, U, hU, _ => by
    have : U = T := Finset.ext fun i => by rw [hU]; simp
    subst this
    refine eq_of_both ⟨?_, ?_⟩
    · show _ ⊢ iprop(_ ∗ emp)
      iintro H; isplitl [H]; · iexact H
      iempintro
    · show iprop(_ ∗ emp) ⊢ _
      iintro ⟨H, -⟩; iexact H
  | S :: l, T, U, hU, hd => by
    rw [List.pairwise_cons, List.pairwise_cons] at hd
    obtain ⟨h1, h2, h3⟩ := hd
    have e : U = S ∪ U \ S := by
      rw [Finset.union_sdiff_of_subset]; exact fun i hi => (hU i).mpr (.inr ⟨S, List.mem_cons_self, hi⟩)
    show _ = iprop(_ ∗ holds c b (l ++ [T]))
    rw [← hold_parts c b l T (U \ S) (fun i => by
      rw [Finset.mem_sdiff, hU]
      constructor
      · rintro ⟨hi | ⟨V, hV, hi⟩, hn⟩
        · exact .inl hi
        · rcases List.mem_cons.mp hV with rfl | hV
          · exact absurd hi hn
          · exact .inr ⟨V, hV, hi⟩
      · rintro (hi | ⟨V, hV, hi⟩)
        · exact ⟨.inl hi, h1 S List.mem_cons_self i hi⟩
        · exact ⟨.inr ⟨V, List.mem_cons_of_mem _ hV, hi⟩, fun h => h2 V hV i h hi⟩)
      (List.pairwise_cons.mpr ⟨fun V hV => h1 V (List.mem_cons_of_mem _ hV), h3⟩)]
    conv_lhs => rw [e]
    exact hold_union c b Finset.disjoint_sdiff

abbrev LIdx : Type := S1024x512.Idx
/-- The rows `[lo, hi)` of a landing buffer. -/
def rows (lo hi : ℕ) : Finset LIdx := Finset.univ.filter fun i => lo ≤ (i 0 : ℕ) ∧ (i 0 : ℕ) < hi
theorem mem_rows {lo hi : ℕ} (i : LIdx) : i ∈ rows lo hi ↔ lo ≤ (i 0 : ℕ) ∧ (i 0 : ℕ) < hi := by simp [rows]
theorem rows_rect {o n : ℕ} (h : ∀ a : Fin 2, (![o, 0] : Fin 2 → ℕ) a + (![n, 512] : Fin 2 → ℕ) a ≤ S1024x512.size a) :
    (Rect.unit (s := S1024x512) ![o, 0] ![n, 512] h).set = rows o (o + n) := by
  ext i
  rw [Rect.mem_set_unit, mem_rows]
  refine Fin.forall_fin_two.trans ?_
  have : (i 1 : ℕ) < 512 := (i 1).isLt
  simp only [Matrix.cons_val_zero, Matrix.cons_val_one]
  constructor <;> intro h <;> omega

/-- Both landing buffers of `c`, cut into the places of the ten copies that land there. -/
def landsA : List Copy := [.k1, .k2, .k3, .k4, .k0]
def landsB : List Copy := [.k11, .k12, .k13, .k14, .k10]

theorem own_hold (c : Dev nD) (k : Copy) (b : Ref sig .tc) (S : Finset (Idx ((c : Thread nD τ).loc b)))
    (h : iprop(∃ g, dpts (F := F) (peer c k) k c g) = hold c b S) : own (F := F) c k = hold c b S := (own_eq c k).trans h

theorem split_land {lo₁ lo₂ lo₃ lo₄ : ℕ} (h : 0 < lo₁ ∧ lo₁ < lo₂ ∧ lo₂ < lo₃ ∧ lo₃ < lo₄ ∧ lo₄ < 1024) (i : LIdx) :
    i ∈ (Finset.univ : Finset LIdx) ↔ i ∈ rows 0 lo₁ ∨ ∃ S ∈ [rows lo₁ lo₂, rows lo₂ lo₃, rows lo₃ lo₄, rows lo₄ 1024], i ∈ S := by
  have : (i 0 : ℕ) < 1024 := (i 0).isLt
  simp only [List.mem_cons, List.not_mem_nil, or_false, exists_eq_or_imp, exists_eq_left, mem_rows, Finset.mem_univ, true_iff]
  omega
theorem apart_land {lo₁ lo₂ lo₃ lo₄ : ℕ} (h : 0 < lo₁ ∧ lo₁ < lo₂ ∧ lo₂ < lo₃ ∧ lo₃ < lo₄ ∧ lo₄ < 1024) :
    [rows 0 lo₁, rows lo₁ lo₂, rows lo₂ lo₃, rows lo₃ lo₄, rows lo₄ 1024].Pairwise fun S T => ∀ i ∈ S, i ∉ T := by
  simp only [List.pairwise_cons, List.mem_cons, List.not_mem_nil, or_false, forall_eq_or_imp, forall_eq, mem_rows,
      IsEmpty.forall_iff, implies_true, and_true, List.Pairwise.nil]
  refine ⟨?_, ?_, ?_, ?_⟩ <;> (repeat' apply And.intro) <;> intro i hi hj <;> omega

theorem set_A {o n : ℕ} (h : ∀ a : Fin 2, (![o, 0] : Fin 2 → ℕ) a + (![n, 512] : Fin 2 → ℕ) a ≤ S1024x512.size a) :
    ((aM.slice (Rect.unit (s := S1024x512) ![o, 0] ![n, 512] h) (fun _ => rfl)).view.set : Finset LIdx) = rows o (o + n) := by
  have : (aM.slice (Rect.unit (s := S1024x512) ![o, 0] ![n, 512] h) (fun _ => rfl)).view.set = (Rect.unit (s := S1024x512) ![o, 0] ![n, 512] h).set := View.set_slice_whole _ _
  rw [this, rows_rect]
theorem set_B {o n : ℕ} (h : ∀ a : Fin 2, (![o, 0] : Fin 2 → ℕ) a + (![n, 512] : Fin 2 → ℕ) a ≤ S1024x512.size a) :
    ((bM.slice (Rect.unit (s := S1024x512) ![o, 0] ![n, 512] h) (fun _ => rfl)).view.set : Finset LIdx) = rows o (o + n) := by
  have : (bM.slice (Rect.unit (s := S1024x512) ![o, 0] ![n, 512] h) (fun _ => rfl)).view.set = (Rect.unit (s := S1024x512) ![o, 0] ![n, 512] h).set := View.set_slice_whole _ _
  rw [this, rows_rect]
theorem dst_set_k0 (c : Dev nD) : ((dst c .k0).view.set : Finset LIdx) = rows 0 256 := set_A inb_S1024x512_S256x512_0_0
theorem dst_set_k1 (c : Dev nD) : ((dst c .k1).view.set : Finset LIdx) = rows 256 512 := set_A inb_S1024x512_S256x512_256_0
theorem dst_set_k2 (c : Dev nD) : ((dst c .k2).view.set : Finset LIdx) = rows 512 768 := set_A inb_S1024x512_S256x512_512_0
theorem dst_set_k3 (c : Dev nD) : ((dst c .k3).view.set : Finset LIdx) = rows 768 896 := set_A inb_S1024x512_S128x512_768_0
theorem dst_set_k4 (c : Dev nD) : ((dst c .k4).view.set : Finset LIdx) = rows 896 1024 := set_A inb_S1024x512_S128x512_896_0
theorem dst_set_k10 (c : Dev nD) : ((dst c .k10).view.set : Finset LIdx) = rows 0 512 := set_B inb_S1024x512_S512x512_0_0
theorem dst_set_k11 (c : Dev nD) : ((dst c .k11).view.set : Finset LIdx) = rows 512 640 := set_B inb_S1024x512_S128x512_512_0
theorem dst_set_k12 (c : Dev nD) : ((dst c .k12).view.set : Finset LIdx) = rows 640 768 := set_B inb_S1024x512_S128x512_640_0
theorem dst_set_k13 (c : Dev nD) : ((dst c .k13).view.set : Finset LIdx) = rows 768 896 := set_B inb_S1024x512_S128x512_768_0
theorem dst_set_k14 (c : Dev nD) : ((dst c .k14).view.set : Finset LIdx) = rows 896 1024 := set_B inb_S1024x512_S128x512_896_0

theorem lands_A (c : Dev nD) : hold c cc0_scratch0 Finset.univ = each (own (F := F) c) landsA := by
  rw [hold_parts c cc0_scratch0 [rows 256 512, rows 512 768, rows 768 896, rows 896 1024] (rows 0 256) Finset.univ
    (split_land (by decide)) (apart_land (by decide))]
  simp only [landsA, each, own_eq, List.cons_append, List.nil_append, holds]
  unfold dpts
  rw [← dst_set_k0 (peer c .k0), ← dst_set_k1 (peer c .k1), ← dst_set_k2 (peer c .k2), ← dst_set_k3 (peer c .k3), ← dst_set_k4 (peer c .k4)]; rfl
theorem lands_B (c : Dev nD) : hold c cc0_scratch1 Finset.univ = each (own (F := F) c) landsB := by
  rw [hold_parts c cc0_scratch1 [rows 512 640, rows 640 768, rows 768 896, rows 896 1024] (rows 0 512) Finset.univ
    (split_land (by decide)) (apart_land (by decide))]
  simp only [landsB, each, own_eq, List.cons_append, List.nil_append, holds]
  unfold dpts
  rw [← dst_set_k10 (peer c .k10), ← dst_set_k11 (peer c .k11), ← dst_set_k12 (peer c .k12), ← dst_set_k13 (peer c .k13), ← dst_set_k14 (peer c .k14)]; rfl

/-! ## The handshake -/

/-- What a device needs to signal its neighbour across `j`: the right to, and its two landing places for the copies from there. -/
def knock (c : Dev nD) (j : Fin 5) : sProp 𝕄 := iprop(dutyTok ER (barC (nbr c j)) 0 j ∗ own c (gate j).1 ∗ own c (gate j).2)

theorem gate_pay (c : Dev nD) (j : Fin 5) : barPay (F := F) (nbr c j) j = iprop(own c (gate j).1 ∗ own c (gate j).2) := by
  unfold barPay own peer; fin_cases j <;> rfl

/-- One barrier signal. -/
theorem signal_one (c : Dev nD) (j : Fin 5) (l : List (Fin 5)) (n : ℤ) (hn : n = ((1 : ℕ) : ℤ)) {α : Type} (kk : PUnit → Pg F α) (Q : α → sProp 𝕄) :
    iprop(know X K ∗ knock c j ∗ owing c (owedB c (j :: l)))
      ⊢ iprop((owing c (owedB c l) -∗ runs c (kk ⟨⟩) Q) -∗ runs c (.op (.semSignal (nbr c j, .tc) barS n) kk) Q) := by
  subst hn
  unfold know owing knock
  iintro ⟨⟨#HR, -⟩, ⟨Ht, Hp⟩, ⟨%W, HO⟩⟩ HQ
  ihave #HI := (inv_bar X K (nbr c j)) $$ HR
  ihave #Hr := (reached_bar X K (nbr c j)) $$ HR
  iapply (Rounds.wp_signal 𝒱₀ ER (Rd X) (c : Thread nD τ) none (dst := (nbr c j : Thread nD τ)) (κ := K (nbr c j, none))
      (d := j) (duties_bar X (nbr c j) j) (amount_bar X (nbr c j) j) () (owedB c l) rfl) $$ [HO Ht Hp]
  · isplitr; · iexact HI
    isplitl [HO]; · iexact HO
    isplitl [Ht]; · iexact Ht
    isplitl [Hp]
    · rw [payload_bar, gate_pay]; iexact Hp
    iexact Hr
  iintro HO
  iapply HQ
  iexists W; iexact HO

/-- The handshake: after it a device holds the places its ten first copies land in. -/
theorem entry_one (c : Dev nD) : Does c
    iprop(know X K ∗ knock c 0 ∗ knock c 1 ∗ knock c 2 ∗ knock c 3 ∗ knock c 4 ∗ atPos ER (barC c) 0 ∅ 0 ∗ cred (tallyAt (barC c) () 5)
      ∗ owing c (owedB c [0, 1, 2, 3, 4])) [entry c]
    iprop(semVal (barC c) 0 ∗ barPay c 0 ∗ barPay c 1 ∗ barPay c 2 ∗ barPay c 3 ∗ barPay c 4 ∗ owing c (owedS c copies)) := does_one fun Q => by
  unfold entry
  iintro ⟨#HK, H0, H1, H2, H3, H4, Ha, Hc, HO⟩ HQ
  iapply (signal_one X K c 0 [1, 2, 3, 4] _ (by decide) _ Q) $$ [H0 HO]
  · isplitr; · iexact HK
    isplitl [H0] <;> iassumption
  iintro HO
  iapply (signal_one X K c 1 [2, 3, 4] _ (by decide) _ Q) $$ [H1 HO]
  · isplitr; · iexact HK
    isplitl [H1] <;> iassumption
  iintro HO
  iapply (signal_one X K c 2 [3, 4] _ (by decide) _ Q) $$ [H2 HO]
  · isplitr; · iexact HK
    isplitl [H2] <;> iassumption
  iintro HO
  iapply (signal_one X K c 3 [4] _ (by decide) _ Q) $$ [H3 HO]
  · isplitr; · iexact HK
    isplitl [H3] <;> iassumption
  iintro HO
  iapply (signal_one X K c 4 [] _ (by decide) _ Q) $$ [H4 HO]
  · isplitr; · iexact HK
    isplitl [H4] <;> iassumption
  unfold know owing owedB
  icases HK with ⟨#HR, #HL⟩
  ihave #HI := (inv_bar X K c) $$ HR
  iintro ⟨%W, HO⟩
  iapply (Rounds.wp_wait_rest_token 𝒱₀ ER (Rd X) (c : Thread nD τ) none (κ := K (c, none))
      (wpE_semWait_eq 𝒱₀ (c : Thread nD τ) none Set.univ) (Set.mem_univ _) () (O := owedS c copies) (W := W) (R := 0) (m := 0) (T := ∅)
      (by rw [expect_bar]; decide)) $$ [Hc HO Ha]
  · isplitr; · iexact HI
    isplitl [Hc]; · iexact Hc
    isplitl [HO]; · iexact HO
    isplitr
    · iapply (mayWait_copies c (.reg barS) copies fun k' _ => by
        rw [show SemLoc.reg barS = semOf none from rfl, which_semOf]; show 1 < phaseOf k' + 2; omega)
      iexact HL
    iexact Ha
  iintro ⟨HO, Ha, -, Hp⟩
  ihave Hp := (Entails.of_eq (rest_bar X c)) $$ Hp
  icases Hp with ⟨P0, P1, P2, P3, P4⟩
  rw [wp_ret]
  imod (Rounds.cell_close ER (Rd X) (Set.mem_univ (K (c, none))) (fun h => h) (R := 0 + 1) (duties_later X (barC c))) $$ [Ha] with Hz
  · isplitr; · iexact HI
    iexact Ha
  imodintro
  iapply HQ
  isplitl [Hz]; · iexact Hz
  isplitl [P0]; · iexact P0
  isplitl [P1]; · iexact P1
  isplitl [P2]; · iexact P2
  isplitl [P3]; · iexact P3
  isplitl [P4]; · iexact P4
  iexists _; iexact HO

/-! ## The result buffer starts as the argument block -/

theorem zero5 : (![0, 0, 0, 0, 0] : Fin 5 → ℕ) = fun _ => 0 := funext fun a => by fin_cases a <;> rfl
theorem zero2 : (![0, 0] : Fin 2 → ℕ) = fun _ => 0 := funext fun a => by fin_cases a <;> rfl

theorem read_arg (c : Dev nD) (x : (cc0_stg0_0 : Ref sig .tc).ty.Contents (Elt F)) :
    (xM : Memref sig .tc .vmem S1x1x1x1024x1024 .bf16).view.readAt (Elt F) (Rect.unit (s := S1x1x1x1024x1024) ![0, 0, 0, 0, 0] S1x1x1x1024x1024.size inb_S1x1x1x1024x1024_S1x1x1x1024x1024_0_0_0_0_0).toLoadRect x = x :=
  Memref.readAt_unit_zero (Elt F) cc0_stg0_0 zero5 _ x
theorem fill_eq (c : Dev nD) (f w : Blk F) :
    ((oM.access (orect ![0, 0] S1024x1024.size inb_S1024x1024_S1024x1024_0_0) : View sig .tc _ _ _).loc (c : Thread nD τ)
        ↦[Finset.univ]{fullShare} (oM.access (orect ![0, 0] S1024x1024.size inb_S1024x1024_S1024x1024_0_0) : View sig .tc _ _ _).write (Elt F) f w Finset.univ : sProp 𝕄)
      = opts c Finset.univ fullShare w := by
  have e : ((oM : Memref sig .tc .vmem S1024x1024 .bf16).access (orect ![0, 0] S1024x1024.size inb_S1024x1024_S1024x1024_0_0) : View sig .tc _ _ _).write (Elt F) f w Finset.univ = w :=
    Memref.write_access_unit_zero_univ (Elt F) cc0_stg1_0 zero2 _ f w
  rw [e]; rfl

theorem fill_one (c : Dev nD) (x : (cc0_stg0_0 : Ref sig .tc).ty.Contents (Elt F)) (f : Blk F) : Does c
    iprop(((c : Thread nD τ).loc cc0_stg0_0 ↦{fullShare} x) ∗ opts c Finset.univ fullShare f) [fill]
    iprop(((c : Thread nD τ).loc cc0_stg0_0 ↦{fullShare} x) ∗ opts c Finset.univ fullShare (k0_pay1 x)) := does_one fun Q => by
  unfold fill
  iintro ⟨Hx, Ho⟩ HQ
  iapply (wp_load 𝒱₀ (c : Thread nD τ) none Set.univ (m := xM) (Finset.subset_univ _)) $$ Hx
  iintro Hx
  ihave Ho := (Entails.of_eq (opts_access c Finset.univ fullShare f (orect ![0, 0] S1024x1024.size inb_S1024x1024_S1024x1024_0_0))) $$ Ho
  iapply (load_mem c oM (orect ![0, 0] S1024x1024.size inb_S1024x1024_S1024x1024_0_0) Finset.univ (Finset.subset_univ _) fullShare f) $$ Ho
  iintro Ho
  iapply (store_mem c oM (orect ![0, 0] S1024x1024.size inb_S1024x1024_S1024x1024_0_0) Finset.univ (Finset.subset_univ _) f) $$ Ho
  iintro Ho
  iapply HQ
  isplitl [Hx]; · iexact Hx
  rw [read_arg c x]
  iapply (Entails.of_eq (fill_eq c f (k0_pay1 x)))
  iexact Ho

end Cert.AllSum

end
-- ==== Proof.Between.lean ====
/-
How the parts of the result buffer and of the landing buffers are cut and joined between the exchanges.
-/
module

public import proofs.«01_k».proof.Proof.Entry

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F)

/-! ## The peer's pieces, in terms of one's own -/

theorem back_A (c : Dev nD) : piece (nbr c 3) .k3 = piece c .k5 ∧ piece (nbr c 3) .k5 = piece c .k3 := by
  simp only [piece, nbr_nbr, fq_nbr3, and_self]
theorem back_B (c : Dev nD) : piece (nbr c 0) .k11 = piece c .k15 ∧ piece (nbr c 1) .k12 = piece c .k16 ∧ piece (nbr c 2) .k13 = piece c .k17
    ∧ piece (nbr c 0) .k15 = piece c .k11 ∧ piece (nbr c 1) .k16 = piece c .k12 ∧ piece (nbr c 2) .k17 = piece c .k13 := by
  simp only [piece, nbr_nbr, hb_nbr0, hb_nbr1, hb_nbr2, and_self]
theorem back_C (c : Dev nD) : piece (nbr c 0) .k0 = piece c .k6 ∧ piece (nbr c 1) .k1 = piece c .k7 ∧ piece (nbr c 2) .k2 = piece c .k8 ∧ piece (nbr c 3) .k10 = piece c .k19
    ∧ piece (nbr c 0) .k6 = piece c .k0 ∧ piece (nbr c 1) .k7 = piece c .k1 ∧ piece (nbr c 2) .k8 = piece c .k2 ∧ piece (nbr c 3) .k19 = piece c .k10 := by
  simp only [piece, nbr_nbr, and_self]

/-- What lands in the result buffer is the piece the buffer lacks, reading as the joined contents do. -/
theorem landed_join (c : Dev nD) (k : Copy) (S : Finset OIdx) (g : Blk F) (hd : dst (peer c k) k = src (peer c k) k) (hS : piece (peer c k) k = S)
    (h : ∀ i ∈ piece (peer c k) k, cont X (peer c k) k i = g i) : landed X c k ⊢ opts c S fullShare g := by
  subst hS
  exact (landed_out X c k hd).trans (Entails.of_eq (opts_congr c fullShare h))

/-! ## Between the exchanges -/

/-- The filled result buffer is the pieces of the first four copies and the own quarter and half. -/
theorem cut_first (c : Dev nD) : opts c Finset.univ fullShare (X c)
    ⊢ iprop(each (ready X c) L0 ∗ opts c (piece c .k6) fullShare (X c) ∗ opts c (piece c .k19) fullShare (X c)) := by
  rw [split_all]; simp only [parts, L0, each]; unfold ready
  iintro ⟨H0, H1, H2, H10, H6, H19, -⟩
  isplitl [H0 H1 H2 H10]
  · isplitl [H0]; · iexact H0
    isplitl [H1]; · iexact H1
    isplitl [H2]; · iexact H2
    isplitl [H10]; · iexact H10
    iempintro
  isplitl [H6] <;> iassumption

/-- The own quarter and half are the pieces of the second exchange and the own blocks. -/
theorem cut_second (c : Dev nD) : iprop(opts c (piece c .k6) fullShare (A1 X c) ∗ opts c (piece c .k19) fullShare (B1 X c))
    ⊢ iprop(each (ready X c) L1 ∗ opts c (piece c .k5) fullShare (A1 X c) ∗ opts c (piece c .k15) fullShare (B1 X c)) := by
  rw [split_A, split_B]; simp only [parts, L1, each]; unfold ready
  iintro ⟨⟨H3, H5, -⟩, H11, H12, H13, H15, -⟩
  isplitl [H3 H11 H12 H13]
  · isplitl [H3]; · iexact H3
    isplitl [H11]; · iexact H11
    isplitl [H12]; · iexact H12
    isplitl [H13]; · iexact H13
    iempintro
  isplitl [H5] <;> iassumption

/-- The final blocks, the right one shared between three copies. -/
theorem ready_L3 (c : Dev nD) : iprop(opts c (piece c .k5) fullShare (A3 X c) ∗ opts c (piece c .k15) fullShare (B3 X c)) ⊢ each (ready X c) L3 := by
  rw [share_three c (piece c .k15)]; simp only [L3, each]; unfold ready
  iintro ⟨H5, H15, H16, H17⟩
  isplitl [H5]; · iexact H5
  isplitl [H15]; · iexact H15
  isplitl [H16]; · iexact H16
  isplitl [H17]; · iexact H17
  iempintro
theorem ready_L3_back (c : Dev nD) : each (ready X c) L3 ⊢ iprop(opts c (piece c .k5) fullShare (A3 X c) ∗ opts c (piece c .k15) fullShare (B3 X c)) := by
  rw [share_three c (piece c .k15)]; simp only [L3, each]; unfold ready
  iintro ⟨H5, H15, H16, H17, -⟩
  isplitl [H5]; · iexact H5
  isplitl [H15]; · iexact H15
  isplitl [H16]; · iexact H16
  iexact H17

/-- The pieces the peers handed over in the second exchange are the places of the fourth. -/
theorem slots_L3 (c : Dev nD) : each (freed (F := F) c) L1 ⊢ each (slot c) L3 := by
  simp only [L1, L3, each]
  iintro ⟨H3, H11, H12, H13, -⟩
  isplitl [H3]; · iapply (slot_of_freed c .k3 .k5 rfl rfl (back_A c).1); iexact H3
  isplitl [H11]; · iapply (slot_of_freed c .k11 .k15 rfl rfl (back_B c).1); iexact H11
  isplitl [H12]; · iapply (slot_of_freed c .k12 .k16 rfl rfl (back_B c).2.1); iexact H12
  isplitl [H13]; · iapply (slot_of_freed c .k13 .k17 rfl rfl (back_B c).2.2.1); iexact H13
  iempintro

/-- After the fourth exchange the own quarter and half are whole and final. -/
theorem join_fourth (c : Dev nD) : iprop(each (ready X c) L3 ∗ each (landed X c) L3)
    ⊢ iprop(opts c (piece c .k6) fullShare (A4 X c) ∗ opts c (piece c .k19) fullShare (B4 X c)) := by
  refine (sep_mono_left (ready_L3_back X c)).trans ?_
  rw [split_A, split_B]; simp only [parts, L3, each]
  iintro ⟨⟨H5, H15⟩, D5, D15, D16, D17, -⟩
  ihave D5 := (landed_join X c .k5 (piece c .k3) (A4 X c) rfl (back_A c).2 fun i hi => A4_pair hi) $$ D5
  ihave D15 := (landed_join X c .k15 (piece c .k11) (B4 X c) rfl (back_B c).2.2.2.1 fun i hi => B4_of ownF_nbr0 (fq_lt _) hi) $$ D15
  ihave D16 := (landed_join X c .k16 (piece c .k12) (B4 X c) rfl (back_B c).2.2.2.2.1 fun i hi => B4_of ownF_nbr1 (fq_lt _) hi) $$ D16
  ihave D17 := (landed_join X c .k17 (piece c .k13) (B4 X c) rfl (back_B c).2.2.2.2.2 fun i hi => B4_of ownF_nbr2 (fq_lt _) hi) $$ D17
  ihave H5 := (Entails.of_eq (opts_congr c fullShare (f := A3 X c) (g := A4 X c) (S := piece c .k5) fun i hi => A4_own hi)) $$ H5
  ihave H15 := (Entails.of_eq (opts_congr c fullShare (f := B3 X c) (g := B4 X c) (S := piece c .k15) fun i hi => B4_of ownF_own (fq_lt _) hi)) $$ H15
  isplitl [H5 D5]
  · isplitl [D5]; · iexact D5
    isplitl [H5]; · iexact H5
    iempintro
  isplitl [D15]; · iexact D15
  isplitl [D16]; · iexact D16
  isplitl [D17]; · iexact D17
  isplitl [H15]; · iexact H15
  iempintro

/-- The final quarter, shared between three copies, and the final half. -/
theorem ready_L4 (c : Dev nD) : iprop(opts c (piece c .k6) fullShare (A4 X c) ∗ opts c (piece c .k19) fullShare (B4 X c)) ⊢ each (ready X c) L4 := by
  rw [share_three c (piece c .k6)]; simp only [L4, each]; unfold ready
  iintro ⟨⟨H6, H7, H8⟩, H19⟩
  isplitl [H6]; · iexact H6
  isplitl [H7]; · iexact H7
  isplitl [H8]; · iexact H8
  isplitl [H19]; · iexact H19
  iempintro
theorem ready_L4_back (c : Dev nD) : each (ready X c) L4 ⊢ iprop(opts c (piece c .k6) fullShare (A4 X c) ∗ opts c (piece c .k19) fullShare (B4 X c)) := by
  rw [share_three c (piece c .k6)]; simp only [L4, each]; unfold ready
  iintro ⟨H6, H7, H8, H19, -⟩
  isplitl [H6 H7 H8]
  · isplitl [H6]; · iexact H6
    isplitl [H7]; · iexact H7
    iexact H8
  iexact H19

/-- The pieces handed over in the first exchange are the places of the fifth. -/
theorem slots_L4 (c : Dev nD) : each (freed (F := F) c) L0 ⊢ each (slot c) L4 := by
  simp only [L0, L4, each]
  iintro ⟨H0, H1, H2, H10, -⟩
  isplitl [H0]; · iapply (slot_of_freed c .k0 .k6 rfl rfl (back_C c).1); iexact H0
  isplitl [H1]; · iapply (slot_of_freed c .k1 .k7 rfl rfl (back_C c).2.1); iexact H1
  isplitl [H2]; · iapply (slot_of_freed c .k2 .k8 rfl rfl (back_C c).2.2.1); iexact H2
  isplitl [H10]; · iapply (slot_of_freed c .k10 .k19 rfl rfl (back_C c).2.2.2.1); iexact H10
  iempintro

/-- After the fifth exchange the whole result buffer is final. -/
theorem join_fifth (c : Dev nD) : iprop(each (ready X c) L4 ∗ each (landed X c) L4) ⊢ opts c Finset.univ fullShare (outOf X c) := by
  refine (sep_mono_left (ready_L4_back X c)).trans ?_
  obtain ⟨-, -, -, -, e6, e7, e8, e19⟩ := back_C c
  rw [split_all]; simp only [parts, L4, each]
  iintro ⟨⟨H6, H19⟩, D6, D7, D8, D19, -⟩
  ihave D6 := (landed_join X c .k6 (piece c .k0) (outOf X c) rfl e6 fun i hi => A5_of ownF_nbr0 hi) $$ D6
  ihave D7 := (landed_join X c .k7 (piece c .k1) (outOf X c) rfl e7 fun i hi => A5_of ownF_nbr1 hi) $$ D7
  ihave D8 := (landed_join X c .k8 (piece c .k2) (outOf X c) rfl e8 fun i hi => A5_of ownF_nbr2 hi) $$ D8
  ihave D19 := (landed_join X c .k19 (piece c .k10) (outOf X c) rfl e19 fun i hi => B5_pair hi) $$ D19
  ihave H6 := (Entails.of_eq (opts_congr c fullShare (f := A4 X c) (g := outOf X c) (S := piece c .k6) fun i hi => A5_of ownF_own hi)) $$ H6
  ihave H19 := (Entails.of_eq (opts_congr c fullShare (f := B4 X c) (g := outOf X c) (S := piece c .k19) fun i hi => B5_own hi)) $$ H19
  isplitl [D6]; · iexact D6
  isplitl [D7]; · iexact D7
  isplitl [D8]; · iexact D8
  isplitl [D19]; · iexact D19
  isplitl [H6]; · iexact H6
  isplitl [H19]; · iexact H19
  iempintro

/-- The places handed over at the handshake, by exchange. -/
theorem slots_first (c : Dev nD) : iprop(barPay (F := F) c 0 ∗ barPay c 1 ∗ barPay c 2 ∗ barPay c 3 ∗ barPay c 4)
    ⊢ iprop(each (slot c) L0 ∗ each (slot c) L1 ∗ each (slot c) L2) := by
  simp only [L0, L1, L2, each]; unfold barPay
  iintro ⟨⟨S0, S11⟩, ⟨S1, S12⟩, ⟨S2, S13⟩, ⟨S3, S10⟩, S4, S14⟩
  isplitl [S0 S1 S2 S10]
  · isplitl [S0]; · iexact S0
    isplitl [S1]; · iexact S1
    isplitl [S2]; · iexact S2
    isplitl [S10]; · iexact S10
    iempintro
  isplitl [S3 S11 S12 S13]
  · isplitl [S3]; · iexact S3
    isplitl [S11]; · iexact S11
    isplitl [S12]; · iexact S12
    isplitl [S13]; · iexact S13
    iempintro
  isplitl [S4]; · iexact S4
  isplitl [S14]; · iexact S14
  iempintro

/-- The right to signal each neighbour, with the landing places cut up, is what the handshake takes. -/
theorem knocks (c : Dev nD) : iprop((dutyTok ER (barC (nbr c 0)) 0 0 ∗ dutyTok ER (barC (nbr c 1)) 0 1 ∗ dutyTok ER (barC (nbr c 2)) 0 2
      ∗ dutyTok ER (barC (nbr c 3)) 0 3 ∗ dutyTok ER (barC (nbr c 4)) 0 4) ∗ each (own (F := F) c) landsA ∗ each (own c) landsB)
    ⊢ iprop(knock c 0 ∗ knock c 1 ∗ knock c 2 ∗ knock c 3 ∗ knock c 4) := by
  simp only [landsA, landsB, each]; unfold knock
  iintro ⟨⟨T0, T1, T2, T3, T4⟩, ⟨P1, P2, P3, P4, P0, -⟩, P11, P12, P13, P14, P10, -⟩
  isplitl [T0 P0 P11]
  · isplitl [T0]; · iexact T0
    isplitl [P0]; · iexact P0
    iexact P11
  isplitl [T1 P1 P12]
  · isplitl [T1]; · iexact T1
    isplitl [P1]; · iexact P1
    iexact P12
  isplitl [T2 P2 P13]
  · isplitl [T2]; · iexact T2
    isplitl [P2]; · iexact P2
    iexact P13
  isplitl [T3 P3 P10]
  · isplitl [T3]; · iexact T3
    isplitl [P3]; · iexact P3
    iexact P10
  isplitl [T4]; · iexact T4
  isplitl [P4]; · iexact P4
  iexact P14

/-- What has landed in the landing buffers fills them again. -/
theorem lands_back (c : Dev nD) : iprop(each (landed X c) L0 ∗ each (landed X c) L1 ∗ each (landed X c) L2)
    ⊢ iprop(each (own c) landsA ∗ each (own c) landsB) := by
  simp only [landsA, landsB, L0, L1, L2, each]
  iintro ⟨⟨D0, D1, D2, D10, -⟩, ⟨D3, D11, D12, D13, -⟩, D4, D14, -⟩
  isplitl [D0 D1 D2 D3 D4]
  · isplitl [D1]; · iapply (own_of_landed X c .k1); iexact D1
    isplitl [D2]; · iapply (own_of_landed X c .k2); iexact D2
    isplitl [D3]; · iapply (own_of_landed X c .k3); iexact D3
    isplitl [D4]; · iapply (own_of_landed X c .k4); iexact D4
    isplitl [D0]; · iapply (own_of_landed X c .k0); iexact D0
    iempintro
  isplitl [D11]; · iapply (own_of_landed X c .k11); iexact D11
  isplitl [D12]; · iapply (own_of_landed X c .k12); iexact D12
  isplitl [D13]; · iapply (own_of_landed X c .k13); iexact D13
  isplitl [D14]; · iapply (own_of_landed X c .k14); iexact D14
  isplitl [D10]; · iapply (own_of_landed X c .k10); iexact D10
  iempintro

end Cert.AllSum

end
-- ==== Proof.Body.lean ====
/-
The kernel of one device from start to end.
-/
module

public import proofs.«01_k».proof.Proof.Between

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (K : Dev nD × Role → ℕ)

theorem each_append (P : Copy → sProp 𝕄) : ∀ l l' : List Copy, each P (l ++ l') = iprop(each P l ∗ each P l')
  | [], l' => by
    refine eq_of_both ⟨?_, ?_⟩
    · show _ ⊢ iprop(emp ∗ _)
      iintro H; isplitr; · iempintro
      iexact H
    · show iprop(emp ∗ _) ⊢ _
      iintro ⟨-, H⟩; iexact H
  | k :: l, l' => by
    show iprop(P k ∗ each P (l ++ l')) = iprop((P k ∗ each P l) ∗ each P l')
    rw [each_append P l l']
    refine eq_of_both ⟨?_, ?_⟩
    · iintro ⟨H, H1, H2⟩
      isplitl [H H1]
      · isplitl [H] <;> iassumption
      iexact H2
    · iintro ⟨⟨H, H1⟩, H2⟩
      isplitl [H]; · iexact H
      isplitl [H1] <;> iassumption

theorem each_copies (P : Copy → sProp 𝕄) : each P copies = iprop(each P L0 ∗ each P L1 ∗ each P L2 ∗ each P L3 ∗ each P L4) := by
  rw [show copies = L0 ++ (L1 ++ (L2 ++ (L3 ++ L4))) from rfl, each_append, each_append, each_append, each_append]

/-- The staged argument block of `c`. -/
def arg (c : Dev nD) (x : (cc0_stg0_0 : Ref sig .tc).ty.Contents (Elt F)) : sProp 𝕄 := (c : Thread nD τ).loc cc0_stg0_0 ↦{fullShare} x
/-- The right to signal the five neighbours. -/
def bells (c : Dev nD) : sProp 𝕄 := iprop(dutyTok ER (barC (nbr c 0)) 0 0 ∗ dutyTok ER (barC (nbr c 1)) 0 1 ∗ dutyTok ER (barC (nbr c 2)) 0 2
      ∗ dutyTok ER (barC (nbr c 3)) 0 3 ∗ dutyTok ER (barC (nbr c 4)) 0 4)

/-- The handshake and the fill: the places of the first ten copies are in hand, and the result buffer holds the argument block. -/
theorem opening_does (c : Dev nD) (x : (cc0_stg0_0 : Ref sig .tc).ty.Contents (Elt F)) (hx : k0_pay1 x = X c) (f : Blk F) : Does c
    iprop(know X K ∗ bells c ∗ (each (own c) landsA ∗ each (own c) landsB) ∗ atPos ER (barC c) 0 ∅ 0 ∗ cred (tallyAt (barC c) () 5)
      ∗ owing c (owedB c [0, 1, 2, 3, 4]) ∗ arg c x ∗ opts c Finset.univ fullShare f) [entry c, fill]
    iprop(semVal (barC c) 0 ∗ (each (slot c) L0 ∗ each (slot c) L1 ∗ each (slot c) L2) ∗ owing c (owedS c copies) ∗ arg c x
      ∗ opts c Finset.univ fullShare (X c)) := fun ps Q => by
  rw [← hx]
  show _ ⊢ iprop(_ -∗ runs c (seqs ([entry c] ++ ([fill] ++ ps))) Q)
  iintro ⟨#HK, Hb, Hl, Ha, Hc, HO, Hx, Hf⟩ HQ
  ihave Hk := (knocks c) $$ [Hb Hl]
  · isplitl [Hb]; · unfold bells; iexact Hb
    iexact Hl
  icases Hk with ⟨K0, K1, K2, K3, K4⟩
  iapply (entry_one X K c _ Q) $$ [K0 K1 K2 K3 K4 Ha Hc HO]
  · isplitr; · iexact HK
    isplitl [K0]; · iexact K0
    isplitl [K1]; · iexact K1
    isplitl [K2]; · iexact K2
    isplitl [K3]; · iexact K3
    isplitl [K4]; · iexact K4
    isplitl [Ha]; · iexact Ha
    isplitl [Hc] <;> iassumption
  iintro ⟨Hz, P0, P1, P2, P3, P4, HO⟩
  ihave Hs := (slots_first c) $$ [P0 P1 P2 P3 P4]
  · isplitl [P0]; · iexact P0
    isplitl [P1]; · iexact P1
    isplitl [P2]; · iexact P2
    isplitl [P3] <;> iassumption
  iapply (fill_one c x f _ Q) $$ [Hx Hf]
  · isplitl [Hx]; · unfold arg; iexact Hx
    iexact Hf
  iintro ⟨Hx, Hf⟩
  iapply HQ
  isplitl [Hz]; · iexact Hz
  isplitl [Hs]; · iexact Hs
  isplitl [HO]; · iexact HO
  isplitl [Hx]; · unfold arg; iexact Hx
  iexact Hf

/-- The three exchanges that add: at their end the own blocks are final, all ten landing places are filled, and the peers
    have handed over the pieces they sent. -/
theorem reduce_does (c : Dev nD) : Does c
    iprop(know X K ∗ (each (tok c) L0 ∗ each (tok c) L1 ∗ each (tok c) L2) ∗ (each (slot c) L0 ∗ each (slot c) L1 ∗ each (slot c) L2)
      ∗ opts c Finset.univ fullShare (X c) ∗ owing c (owedS c copies)) (phase0 c ++ (phase1 c ++ phase2 c))
    iprop((each (fin c) L0 ∗ each (fin c) L1 ∗ each (fin c) L2) ∗ (each (freed c) L0 ∗ each (freed c) L1)
      ∗ (each (landed X c) L0 ∗ each (landed X c) L1 ∗ each (landed X c) L2)
      ∗ (opts c (piece c .k5) fullShare (A3 X c) ∗ opts c (piece c .k15) fullShare (B3 X c)) ∗ owing c (owedS c (L3 ++ (L4 ++ [])))) := fun ps Q => by
  rw [List.append_assoc, List.append_assoc]
  iintro ⟨#HK, ⟨T0, T1, T2⟩, ⟨S0, S1, S2⟩, Ho, HO⟩ HQ
  ihave Ho := (cut_first X c) $$ Ho
  icases Ho with ⟨Hr, H6, H19⟩
  iapply (phase0_does X K c (L1 ++ (L2 ++ (L3 ++ (L4 ++ [])))) (by decide) _ Q) $$ [T0 Hr S0 H6 H19 HO]
  · isplitr; · iexact HK
    isplitl [T0]; · iexact T0
    isplitl [Hr]; · iexact Hr
    isplitl [S0]; · iexact S0
    isplitl [H6]; · iexact H6
    isplitl [H19]; · iexact H19
    iexact HO
  iintro ⟨F0, E0, D0, H6, H19, HO⟩
  ihave Ho := (cut_second X c) $$ [H6 H19]
  · isplitl [H6] <;> iassumption
  icases Ho with ⟨Hr, H5, H15⟩
  iapply (phase1_does X K c (L2 ++ (L3 ++ (L4 ++ []))) (by decide) _ Q) $$ [T1 Hr S1 H5 H15 HO]
  · isplitr; · iexact HK
    isplitl [T1]; · iexact T1
    isplitl [Hr]; · iexact Hr
    isplitl [S1]; · iexact S1
    isplitl [H5]; · iexact H5
    isplitl [H15] <;> iassumption
  iintro ⟨F1, E1, D1, H5, H15, HO⟩
  iapply (phase2_does X K c (L3 ++ (L4 ++ [])) (by decide) _ Q) $$ [T2 S2 H5 H15 HO]
  · isplitr; · iexact HK
    isplitl [T2]; · iexact T2
    isplitl [H5]; · iexact H5
    isplitl [H15]; · iexact H15
    isplitl [S2] <;> iassumption
  iintro ⟨F2, D2, H5, H15, HO⟩
  iapply HQ
  isplitl [F0 F1 F2]
  · isplitl [F0]; · iexact F0
    isplitl [F1] <;> iassumption
  isplitl [E0 E1]
  · isplitl [E0] <;> iassumption
  isplitl [D0 D1 D2]
  · isplitl [D0]; · iexact D0
    isplitl [D1] <;> iassumption
  isplitl [H5 H15]
  · isplitl [H5] <;> iassumption
  iexact HO

/-- The two exchanges that hand the final parts back: at their end the result buffer is final. -/
theorem spread_does (c : Dev nD) : Does c
    iprop(know X K ∗ (each (tok c) L3 ∗ each (tok c) L4) ∗ (each (freed c) L0 ∗ each (freed c) L1)
      ∗ (opts c (piece c .k5) fullShare (A3 X c) ∗ opts c (piece c .k15) fullShare (B3 X c)) ∗ owing c (owedS c (L3 ++ (L4 ++ [])))) (phase3 c ++ phase4 c)
    iprop((each (fin c) L3 ∗ each (fin c) L4) ∗ opts c Finset.univ fullShare (outOf X c) ∗ owing c (owedS c [])) := fun ps Q => by
  rw [List.append_assoc]
  iintro ⟨#HK, ⟨T3, T4⟩, ⟨E0, E1⟩, Ho, HO⟩ HQ
  ihave Hr := (ready_L3 X c) $$ Ho
  ihave Hs := (slots_L3 c) $$ E1
  iapply (phase3_does X K c (L4 ++ []) (by decide) _ Q) $$ [T3 Hr Hs HO]
  · isplitr; · iexact HK
    isplitl [T3]; · iexact T3
    isplitl [Hr]; · iexact Hr
    isplitl [Hs] <;> iassumption
  iintro ⟨F3, Hr, Hl, HO⟩
  ihave Ho := (join_fourth X c) $$ [Hr Hl]
  · isplitl [Hr] <;> iassumption
  ihave Hr := (ready_L4 X c) $$ Ho
  ihave Hs := (slots_L4 c) $$ E0
  iapply (phase4_does X K c _ Q) $$ [T4 Hr Hs HO]
  · isplitr; · iexact HK
    isplitl [T4]; · iexact T4
    isplitl [Hr]; · iexact Hr
    isplitl [Hs] <;> iassumption
  iintro ⟨F4, Hr, Hl, HO⟩
  ihave Ho := (join_fifth X c) $$ [Hr Hl]
  · isplitl [Hr] <;> iassumption
  iapply HQ
  isplitl [F3 F4]
  · isplitl [F3] <;> iassumption
  isplitl [Ho] <;> iassumption

/-- What a device holds besides the records when its kernel starts: its tokens, the right to signal, its place at its barrier. -/
def kit (c : Dev nD) : sProp 𝕄 := iprop(each (tok c) copies ∗ bells c ∗ atPos ER (barC c) 0 ∅ 0 ∗ cred (tallyAt (barC c) () 5))
/-- All its semaphores back at zero. -/
def quiet (c : Dev nD) : sProp 𝕄 := iprop(semVal (barC c) 0 ∗ each (fin c) copies)
/-- Its two landing buffers, contents left open. -/
def lands (c : Dev nD) : sProp 𝕄 := iprop(hold c cc0_scratch0 Finset.univ ∗ hold c cc0_scratch1 Finset.univ)

/-- The whole kernel of one device: from the staged argument block it leaves the result block in the result buffer and
    every semaphore at zero, and owes nothing. -/
theorem steps_does (c : Dev nD) (x : (cc0_stg0_0 : Ref sig .tc).ty.Contents (Elt F)) (hx : k0_pay1 x = X c) (f : Blk F) : Does c
    iprop(know X K ∗ kit c ∗ lands c ∗ owing c (owedB c [0, 1, 2, 3, 4]) ∗ arg c x ∗ opts c Finset.univ fullShare f) (steps c)
    iprop(quiet c ∗ lands c ∗ owing c 0 ∗ arg c x ∗ opts c Finset.univ fullShare (outOf X c)) := fun ps Q => by
  rw [show steps c = [entry c, fill] ++ ((phase0 c ++ (phase1 c ++ phase2 c)) ++ (phase3 c ++ phase4 c)) from by
    simp only [steps, List.append_assoc, List.cons_append, List.nil_append]]
  rw [List.append_assoc, List.append_assoc]
  unfold kit quiet lands
  rw [lands_A, lands_B, each_copies, each_copies]
  iintro ⟨#HK, ⟨⟨T0, T1, T2, T3, T4⟩, Hb, Ha, Hc⟩, Hl, HO, Hx, Hf⟩ HQ
  iapply (opening_does X K c x hx f _ Q) $$ [Hb Ha Hc Hl HO Hx Hf]
  · isplitr; · iexact HK
    isplitl [Hb]; · iexact Hb
    isplitl [Hl]; · iexact Hl
    isplitl [Ha]; · iexact Ha
    isplitl [Hc]; · iexact Hc
    isplitl [HO]; · iexact HO
    isplitl [Hx] <;> iassumption
  iintro ⟨Hz, Hs, HO, Hx, Hf⟩
  iapply (reduce_does X K c _ Q) $$ [T0 T1 T2 Hs HO Hf]
  · isplitr; · iexact HK
    isplitl [T0 T1 T2]
    · isplitl [T0]; · iexact T0
      isplitl [T1] <;> iassumption
    isplitl [Hs]; · iexact Hs
    isplitl [Hf] <;> iassumption
  iintro ⟨⟨F0, F1, F2⟩, HE, HD, Hf, HO⟩
  ihave Hl := (lands_back X c) $$ HD
  iapply (spread_does X K c _ Q) $$ [T3 T4 HE Hf HO]
  · isplitr; · iexact HK
    isplitl [T3 T4]
    · isplitl [T3] <;> iassumption
    isplitl [HE]; · iexact HE
    isplitl [Hf] <;> iassumption
  iintro ⟨⟨F3, F4⟩, Hf, HO⟩
  iapply HQ
  isplitl [Hz F0 F1 F2 F3 F4]
  · isplitl [Hz]; · iexact Hz
    isplitl [F0]; · iexact F0
    isplitl [F1]; · iexact F1
    isplitl [F2]; · iexact F2
    isplitl [F3] <;> iassumption
  isplitl [Hl]; · iexact Hl
  isplitl [HO]; · iexact HO
  isplitl [Hx] <;> iassumption

end Cert.AllSum

end
-- ==== Proof.Deal.lean ====
/-
How the launch deals out the rights, the places and the credit of the protocol to the devices.
-/
module

public import proofs.«01_k».proof.Proof.Body

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Collections over roles and over copies -/

/-- Over all roles: the barrier, and the two semaphores of every copy. -/
theorem sep_roles (Φ : Role → sProp 𝕄) : bigSep Finset.univ Φ = iprop(Φ none ∗ bigSep Finset.univ fun p : Copy × Bool => Φ (some p)) := by
  rw [show (Finset.univ : Finset Role) = insert none (Finset.univ.map Function.Embedding.some) from by decide +kernel,
    BI.bigSep_insert (by decide), BI.bigSep_map]; rfl
theorem sep_pairs (Φ : Copy × Bool → sProp 𝕄) : bigSep Finset.univ Φ = iprop((bigSep Finset.univ fun k => Φ (k, false)) ∗ bigSep Finset.univ fun k => Φ (k, true)) := by
  rw [BI.bigSep_univ_prod, ← bigSep_sep']
  exact bigSep_congr fun k _ => (bigSep_univ_eq_bigSepL [false, true] (by decide) (by decide) _).trans (by rw [bigSepL_cons_cons, bigSepL_singleton]; rfl)
theorem sep_list (P : Copy → sProp 𝕄) : ∀ l : List Copy, l.Nodup → bigSep l.toFinset P = each P l
  | [], _ => rfl
  | k :: l, h => by
    rw [List.toFinset_cons, BI.bigSep_insert (fun hk => (List.nodup_cons.mp h).1 (List.mem_toFinset.mp hk)), sep_list P l (List.nodup_cons.mp h).2]; rfl
theorem sep_copies (P : Copy → sProp 𝕄) : bigSep Finset.univ P = each P copies := sep_list P copies (by decide)
theorem sep_five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
/-- Over devices, a collection may be indexed by the neighbour instead. -/
theorem sep_across (j : Fin 5) (Φ : Dev nD → sProp 𝕄) : bigSep Finset.univ Φ = bigSep Finset.univ fun c => Φ (nbr c j) := BI.bigSep_univ_equiv (across j) Φ
theorem sep_swap {A B : Type} [Fintype A] [Fintype B] (Φ : A → B → sProp 𝕄) :
    (bigSep Finset.univ fun a => bigSep Finset.univ fun b => Φ a b) = bigSep Finset.univ fun b => bigSep Finset.univ fun a => Φ a b := by
  rw [← BI.bigSep_univ_prod (fun x : A × B => Φ x.1 x.2), ← BI.bigSep_univ_prod (fun x : B × A => Φ x.2 x.1),
    BI.bigSep_univ_equiv (Equiv.prodComm B A) (fun x : A × B => Φ x.1 x.2)]; rfl

/-! ## The protocol's state at launch -/

/-- The kernel's own semaphores. -/
abbrev osem (p : Copy × Bool) : SemLoc sig := semOf (some p)
theorem ownSemFacts : Pipeline.OwnSemFacts cfg0.spec osem :=
  ⟨by decide +kernel, fun p q h => Option.some.inj (semOf_injective h), by decide +kernel⟩

theorem cell_injective : Function.Injective fun p : Dev nD × Role => cell p.1 p.2 := by
  rintro ⟨c, i⟩ ⟨c', i'⟩ h
  have h1 : c = c' := congrArg (fun g : GSem nD τ sig => g.1.1) h
  have h2 : i = i' := semOf_injective (congrArg Prod.snd h)
  rw [h1, h2]
def theCells : Finset (GSem nD τ sig) := Finset.univ.map ⟨fun p : Dev nD × Role => cell p.1 p.2, cell_injective⟩

/-- The duties of a device's semaphores: five on its barrier, one on each of the others. -/
abbrev dutyOf : Dev nD × (Fin 5 ⊕ Copy × Bool) → GSem nD τ sig × ℕ × Fin 5
  | (c, .inl j) => (barC c, 0, j) | (c, .inr p) => (cell c (some p), 0, 0)
theorem dutyOf_injective : Function.Injective dutyOf := by
  rintro ⟨c, x⟩ ⟨c', x'⟩ h
  have h1 : c = c' := by
    have := congrArg (fun y : GSem nD τ sig × ℕ × Fin 5 => y.1.1.1) h
    cases x <;> cases x' <;> exact this
  subst h1
  rcases x with j | p <;> rcases x' with j' | p'
  · exact congrArg (fun j => (c, Sum.inl j)) (congrArg (fun y : GSem nD τ sig × ℕ × Fin 5 => y.2.2) h)
  · exact absurd (semOf_injective (a₁ := none) (a₂ := some p') (congrArg (fun y : GSem nD τ sig × ℕ × Fin 5 => y.1.2) h)) (by simp)
  · exact absurd (semOf_injective (a₁ := some p) (a₂ := none) (congrArg (fun y : GSem nD τ sig × ℕ × Fin 5 => y.1.2) h)) (by simp)
  · exact congrArg (fun p => (c, Sum.inr p)) (Option.some.inj (semOf_injective (congrArg (fun y : GSem nD τ sig × ℕ × Fin 5 => y.1.2) h)))
def theDuties : Finset (GSem nD τ sig × ℕ × Fin 5) := Finset.univ.map ⟨dutyOf, dutyOf_injective⟩

def u₀ : UU := (initOf (Pipeline.cells cfgs cellOf_inj) (Pipeline.launchToks cfgs cellOf_inj), initOf theCells theDuties)

variable (X : Dev nD → Blk F)

/-- The duties of `c`'s own semaphores. -/
def minted (c : Dev nD) : sProp 𝕄 :=
  iprop((bigSep Finset.univ fun j : Fin 5 => dutyTok ER (barC c) 0 j) ∗ (bigSep Finset.univ fun k : Copy => dutyTok ER (sendC c k) 0 0)
    ∗ bigSep Finset.univ fun k : Copy => dutyTok ER (recvC c k) 0 0)
/-- Where `c` stands at its own semaphores. -/
def places (c : Dev nD) : sProp 𝕄 :=
  iprop(atPos ER (barC c) 0 ∅ 0 ∗ (bigSep Finset.univ fun k : Copy => atPos ER (sendC c k) 0 ∅ 0) ∗ bigSep Finset.univ fun k : Copy => atPos ER (recvC c k) 0 ∅ 0)
/-- What each device is dealt at launch. -/
def G (c : Dev nD) : sProp 𝕄 :=
  iprop((bigSep Finset.univ fun i : Role => roundState ER (Rd X) (cell c i) 0) ∗ (bigSep Finset.univ fun i : Role => reached ER (cell c i) 0) ∗ places c ∗ minted c)

theorem fund_all : BI.own (ER (initOf theCells theDuties)) ⊢ (|==> bigSep Finset.univ (G X) : sProp 𝕄) := by
  have hC (Φ : GSem nD τ sig → sProp 𝕄) : bigSep theCells Φ = bigSep Finset.univ fun c : Dev nD => bigSep Finset.univ fun i : Role => Φ (cell c i) := by
    unfold theCells; rw [BI.bigSep_map, BI.bigSep_univ_prod]; rfl
  have hP : bigSep theCells (fun g => (atPos ER g 0 ∅ 0 : sProp 𝕄)) = bigSep Finset.univ fun c : Dev nD => places c :=
    (hC _).trans (bigSep_congr fun c _ => by rw [sep_roles, sep_pairs]; rfl)
  have hT : bigSep theDuties (fun x => (dutyTok ER x.1 x.2.1 x.2.2 : sProp 𝕄)) = bigSep Finset.univ fun c : Dev nD => minted c := by
    unfold theDuties; rw [BI.bigSep_map, BI.bigSep_univ_prod]
    exact bigSep_congr fun c _ => by rw [BI.bigSep_univ_sum, sep_pairs]; rfl
  iintro HX
  imod (Rounds.fund ER (Rd X) theCells theDuties) $$ HX with ⟨Hst, Hr, Hat, Htok⟩
  imodintro
  ihave Hst := (Entails.of_eq (hC fun g => roundState ER (Rd X) g 0)) $$ Hst
  ihave Hr := (Entails.of_eq (hC fun g => reached ER g 0)) $$ Hr
  ihave Hat := (Entails.of_eq hP) $$ Hat
  ihave Htok := (Entails.of_eq hT) $$ Htok
  unfold G; simp only [bigSep_sep']
  isplitl [Hst]; · iexact Hst
  isplitl [Hr]; · iexact Hr
  isplitl [Hat]; · iexact Hat
  iexact Htok

/-- The barrier semaphore is the launch's one unscoped semaphore. -/
theorem unscoped_eq (c : Dev nD) : (unscopedSems0 c : sProp 𝕄) = semVal (barC c) 0 := by
  unfold unscopedSems0; rw [bigSep_eq_bigSepL_of_eq [SemLoc.reg barS] (by decide) (by decide)]; rfl
theorem own_sems_eq (c : Dev nD) : (Pipeline.ownSems0 (Ix := Unit) (Name := ℕ) (U := UU) (Lvl := ℕ) (Val := Elt F) (τ := τ) osem c : sProp 𝕄)
    = bigSep Finset.univ fun p : Copy × Bool => semVal (cell c (some p)) 0 := rfl
/-- All semaphores at zero, as the launch hands them out and takes them back. -/
theorem sems_eq (c : Dev nD) : iprop(unscopedSems0 c ∗ Pipeline.ownSems0 (Ix := Unit) (Name := ℕ) (U := UU) (Lvl := ℕ) (Val := Elt F) (τ := τ) osem c)
    = (bigSep Finset.univ fun i : Role => semVal (cell c i) 0 : sProp 𝕄) := by
  rw [own_sems_eq, unscoped_eq, sep_roles]; rfl
theorem quiet_eq (c : Dev nD) : quiet c = iprop(unscopedSems0 c ∗ Pipeline.ownSems0 (Ix := Unit) (Name := ℕ) (U := UU) (Lvl := ℕ) (Val := Elt F) (τ := τ) osem c) := by
  rw [own_sems_eq, unscoped_eq, sep_pairs, ← bigSep_sep', sep_copies]; rfl

/-- One device's semaphores put under their invariants. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun i : Role => iprop(∃ κ : ℕ, cellInv ER (Rd X) κ (cell c i)))
          ∗ (bigSep Finset.univ fun i : Role => reached ER (cell c i) 0) ∗ places c ∗ minted c) := by
  unfold G
  iintro ⟨Ho, Hu, Hst, Hrest⟩
  ihave Hv := (Entails.of_eq (sems_eq (F := F) c)) $$ [Ho Hu]
  · isplitl [Hu] <;> iassumption
  imod (show iprop((bigSep Finset.univ fun i : Role => semVal (cell c i) 0) ∗ bigSep Finset.univ fun i : Role => roundState ER (Rd X) (cell c i) 0)
      ⊢ (|={Set.univ}=> bigSep Finset.univ fun i => iprop(∃ κ : ℕ, cellInv ER (Rd X) κ (cell c i)) : sProp 𝕄) from by
        rw [← bigSep_sep']
        exact (bigSep_mono fun i _ => (Rounds.body_intro ER (Rd X) (cell c i)).trans inv_alloc).trans (BI.bigSep_fupd _ _)) $$ [Hv Hst] with Hinv
  · isplitl [Hv] <;> iassumption
  imodintro
  isplitl [Hinv] <;> iassumption

/-- The duties a device is to fulfil: its signals to the neighbours, and for each copy the one counted at its own and the
    one counted at the peer's semaphore. -/
def dealt (c : Dev nD) : sProp 𝕄 :=
  iprop(bells c ∗ (bigSep Finset.univ fun k : Copy => dutyTok ER (sendC c k) 0 0) ∗ bigSep Finset.univ fun k : Copy => dutyTok ER (recvC (peer c k) k) 0 0)

theorem deal : (bigSep Finset.univ fun c : Dev nD => (minted c : sProp 𝕄)) = bigSep Finset.univ fun c : Dev nD => dealt c := by
  unfold minted dealt bells
  simp only [bigSep_sep']
  congr 1
  · rw [sep_swap, sep_five, sep_across 0 (fun c => dutyTok ER (barC c) 0 0), sep_across 1 (fun c => dutyTok ER (barC c) 0 1), sep_across 2 (fun c => dutyTok ER (barC c) 0 2),
      sep_across 3 (fun c => dutyTok ER (barC c) 0 3), sep_across 4 (fun c => dutyTok ER (barC c) 0 4)]
  · congr 1
    rw [sep_swap, sep_swap (fun c k => (dutyTok ER (recvC (peer c k) k) 0 0 : sProp 𝕄))]
    exact bigSep_congr fun k _ => sep_across (ax k) fun c => dutyTok ER (recvC c k) 0 0

/-- What the launch makes of it for one device. -/
def G' (c : Dev nD) : sProp 𝕄 := iprop(∃ K, records X K ∗ places c ∗ dealt c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Role => iprop(∃ κ : ℕ, cellInv ER (Rd X) κ (cell c i)))
          ∗ (bigSep Finset.univ fun i : Role => reached ER (cell c i) 0) ∗ places c ∗ minted c) : sProp 𝕄) ⊢ bigSep Finset.univ (G' X) := by
  rw [bigSep_sep', bigSep_sep', bigSep_sep', deal, ← BI.bigSep_univ_prod (fun p : Dev nD × Role => iprop(∃ κ : ℕ, cellInv ER (Rd X) κ (cell p.1 p.2))),
    ← BI.bigSep_univ_prod (fun p : Dev nD × Role => (reached ER (cell p.1 p.2) 0 : sProp 𝕄))]
  iintro ⟨HI, #HR, Hp, Hd⟩
  ihave HK := (BI.bigSep_exists_pi Finset.univ (fun (p : Dev nD × Role) (κ : ℕ) => (cellInv ER (Rd X) κ (cell p.1 p.2) : sProp 𝕄))) $$ HI
  icases HK with ⟨%K, #HI⟩
  iapply (with_persistent (R := records X K) (Φ := fun c => iprop(places c ∗ dealt c)) fun c _ => show iprop(records X K ∗ places c ∗ dealt c) ⊢ G' X c from by
    unfold G'
    iintro H
    iexists K; iexact H)
  isplitr
  · unfold records; rw [bigSep_sep']
    isplitl; · iexact HI
    iexact HR
  · rw [bigSep_sep']
    isplitl [Hp] <;> iassumption

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (BI.bigSep_fupd _ _)).trans (BI.fupd_mono (regroup X))

/-! ## The launch credit -/

/-- What a device owes at launch. -/
def O₀ (c : Dev nD) : CellTallies nD τ sig Unit := owedB c [0, 1, 2, 3, 4]

theorem nbr_swap {c d : Dev nD} {j : Fin 5} : c = nbr d j ↔ d = nbr c j :=
  ⟨fun h => by rw [h, nbr_nbr], fun h => by rw [h, nbr_nbr]⟩
theorem recv_eq {c d : Dev nD} {k k' : Copy} (h : recvC c k = recvC d k') : c = d ∧ k = k' := by
  have := cell_injective (a₁ := (c, some (k, true))) (a₂ := (d, some (k', true))) h
  simpa using this
theorem bar_ne_recv (c d : Dev nD) (k : Copy) : barC c ≠ recvC d k := fun h => by
  have := cell_injective (a₁ := (c, none)) (a₂ := (d, some (k, true))) h
  simp at this

theorem owedS_recv (d c : Dev nD) (k : Copy) : ∀ l : List Copy, owedS d l (recvC c k) () = l.count k * if d = peer c k then amt k else 0
  | [] => by rw [owedS, List.count_nil, Nat.zero_mul]; rfl
  | k' :: l => by
    rw [owedS, Pi.add_apply, Finsupp.add_apply, owedS_recv d c k l, tallyAt_apply, List.count_cons]
    by_cases hk : k' = k
    · subst hk
      by_cases hd : d = peer c k'
      · rw [if_pos hd, if_pos ⟨by rw [nbr_swap.mpr hd], rfl⟩, beq_self_eq_true, if_pos rfl, Nat.add_mul, Nat.one_mul]
      · rw [if_neg hd, if_neg (show ¬(recvC c k' = recvC (peer d k') k' ∧ () = ()) from fun h => hd (nbr_swap.mp (recv_eq h.1).1)), Nat.mul_zero, Nat.mul_zero]
    · rw [if_neg (show ¬(recvC c k = recvC (peer d k') k' ∧ () = ()) from fun h => hk (recv_eq h.1).2.symm), beq_false_of_ne hk]; rfl
theorem owedS_bar (d c : Dev nD) : ∀ l : List Copy, owedS d l (barC c) () = 0
  | [] => rfl
  | k' :: l => by
    rw [owedS, Pi.add_apply, Finsupp.add_apply, owedS_bar d c l, tallyAt_apply, if_neg fun h => bar_ne_recv _ _ _ h.1]
theorem owedB_recv (d c : Dev nD) (k : Copy) : ∀ l : List (Fin 5), owedB d l (recvC c k) () = owedS d copies (recvC c k) ()
  | [] => rfl
  | j :: l => by
    rw [owedB, Pi.add_apply, Finsupp.add_apply, owedB_recv d c k l, tallyAt_apply, if_neg fun h => bar_ne_recv _ _ _ h.1.symm, Nat.add_zero]
theorem owedB_bar (d c : Dev nD) : ∀ l : List (Fin 5), owedB d l (barC c) () = (l.map fun j => if d = nbr c j then 1 else 0).sum
  | [] => owedS_bar d c copies
  | j :: l => by
    rw [owedB, Pi.add_apply, Finsupp.add_apply, owedB_bar d c l, tallyAt_apply, List.map_cons, List.sum_cons, Nat.add_comm]
    congr 1
    by_cases hd : d = nbr c j
    · rw [if_pos hd, if_pos ⟨by rw [nbr_swap.mpr hd], rfl⟩]
    · rw [if_neg hd, if_neg fun h => hd (nbr_swap.mp (congrArg (fun g : GSem nD τ sig => g.1.1) h.1))]

/-- Every device is owed five units at its barrier, -/
theorem launch_bar (c : Dev nD) :
    tallyOn (barC c) (launchCredit (Pipeline.owing O₀) 0 (barC c)) = (tallyAt (barC c) () 5 : CellTallies nD τ sig Unit) := by
  unfold tallyAt; refine congrArg _ (Finsupp.ext fun u => ?_); cases u
  rw [Pipeline.launchCredit_owing, Finsupp.single_eq_same, Finset.sum_congr rfl fun d _ => show O₀ d (barC c) () = _ from owedB_bar d c [0, 1, 2, 3, 4]]
  simp only [List.map_cons, List.map_nil, List.sum_cons, List.sum_nil, Finset.sum_add_distrib, Finset.sum_ite_eq', Finset.mem_univ, if_true, Finset.sum_const_zero]; rfl
/-- and one copy's amount at each receiving semaphore. -/
theorem launch_recv (c : Dev nD) (k : Copy) :
    tallyOn (recvC c k) (launchCredit (Pipeline.owing O₀) 0 (recvC c k)) = (tallyAt (recvC c k) () (amt k) : CellTallies nD τ sig Unit) := by
  unfold tallyAt; refine congrArg _ (Finsupp.ext fun u => ?_); cases u
  have h1 : copies.count k = 1 := by cases k <;> decide
  rw [Pipeline.launchCredit_owing, Finsupp.single_eq_same, Finset.sum_congr rfl fun d _ => show O₀ d (recvC c k) () = _ from (owedB_recv d c k [0, 1, 2, 3, 4]).trans (owedS_recv d c k copies)]
  simp only [h1, Nat.one_mul, Finset.sum_ite_eq', Finset.mem_univ, if_true]

theorem creds (c : Dev nD) : (Pipeline.launchCred O₀ c : sProp 𝕄)
    ⊢ iprop(cred (tallyAt (barC c) () 5) ∗ bigSep Finset.univ fun k : Copy => cred (tallyAt (recvC c k) () (amt k))) := by
  have h : (Pipeline.launchCred O₀ c : sProp 𝕄)
      ⊢ bigSep Finset.univ fun i : Role => cred (tallyOn (cell c i) (launchCredit (Pipeline.owing O₀) 0 (cell c i))) := by
    unfold Pipeline.launchCred
    refine (BI.bigSep_subset (Finset.subset_univ (Finset.univ.map ⟨semOf, semOf_injective⟩))).trans ?_
    rw [BI.bigSep_map]; exact BI.Entails.refl _
  refine h.trans ?_
  rw [sep_roles, sep_pairs]
  iintro ⟨Hb, -, Hr⟩
  isplitl [Hb]
  · iapply (Entails.of_eq (congrArg cred (launch_bar c))); iexact Hb
  · iapply (Entails.of_eq (bigSep_congr fun k _ => congrArg cred (launch_recv c k))); iexact Hr

/-- What one device's kernel starts from. -/
def start (c : Dev nD) : sProp 𝕄 := iprop(∃ K, know X K ∗ kit c)

theorem kit_of (c : Dev nD) : iprop(places c ∗ dealt c ∗ cred (tallyAt (barC c) () 5) ∗ bigSep Finset.univ fun k : Copy => cred (tallyAt (recvC c k) () (amt k)))
    ⊢ kit (F := F) c := by
  unfold kit places dealt
  rw [← sep_copies]; unfold tok; simp only [bigSep_sep']
  iintro ⟨⟨Ab, As, Ar⟩, ⟨Hb, Ts, Tr⟩, Cb, Cr⟩
  isplitl [As Ar Ts Tr Cr]
  · isplitl [Ts]; · iexact Ts
    isplitl [Tr]; · iexact Tr
    isplitl [As]; · iexact As
    isplitl [Ar] <;> iassumption
  isplitl [Hb]; · iexact Hb
  isplitl [Ab] <;> iassumption

theorem start_of (c : Dev nD) : iprop(levAts L lv ∗ Pipeline.launchCred O₀ c ∗ G' X c) ⊢ start X c := by
  unfold start G' know
  iintro ⟨Hl, Hc, ⟨%K, HR, Hp, Hd⟩⟩
  ihave Hc := (creds c) $$ Hc
  icases Hc with ⟨Cb, Cr⟩
  iexists K
  isplitl [HR Hl]
  · isplitl [HR] <;> iassumption
  iapply (kit_of c)
  isplitl [Hp]; · iexact Hp
  isplitl [Hd]; · iexact Hd
  isplitl [Cb] <;> iassumption

end Cert.AllSum

end
-- ==== Proof.Run.lean ====
/-
The run of the kernel on all devices: the launch, the body on each device, and what the arrays hold at the end.
-/
module

public import proofs.«01_k».proof.Proof.Deal
public import Idealize.ShloMosaic.Lib.Pipeline.CollectiveSegs

@[expose] public section

set_option maxRecDepth 16384

noncomputable section

namespace Cert.AllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory at launch: every counter at zero. -/
def s₀ : MemSt nD τ sig (Elt F) := ⟨m, fun _ => 0, ρ⟩

/-- The argument array of `c`. -/
def given (c : Dev nD) : (cc0_stg0_0 : Ref sig .tc).ty.Contents (Elt F) := m ((c : Thread nD τ).loc main_arg0)
/-- The block `c` brings to the sum: its argument without the leading axes of extent one. -/
def block (c : Dev nD) : Blk F := k0_pay1 (given m c)

def Φ₀ (c : Dev nD) : sProp 𝕄 := iprop(start (block m) c ∗ lands c)
def Φ₁ (c : Dev nD) : sProp 𝕄 := iprop(quiet c ∗ lands c)

/-- What the launch is told of the one kernel: the argument stays, the result array ends at the sum. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => given m c
    | ⟨1, _⟩ => outOf (block m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (given m c) ∗ stg c cc0_stg1_0 (outOf (block m) c))

theorem opts_whole (c : Dev nD) (f : Buf (Elt F) ((c : Thread nD τ).loc cc0_stg1_0)) :
    (((c : Thread nD τ).loc cc0_stg1_0) ↦{fullShare} f : sProp 𝕄) = opts c Finset.univ fullShare f := rfl
theorem before_arg (c : Dev nD) (d) : (dats m ρ 0 c).before (0 : Fin 2) t0_0 d = given m c := by
  unfold Dat.before; rw [if_pos (fetch0_0 t0_0)]
  exact Memref.read_access_unit_zero (Elt F) main_arg0 (off := fun a => win0_0.index t0_0 a * main_arg0.ty.shape.size a)
    (funext fun a => by fin_cases a <;> decide) (fun a => by fin_cases a <;> decide) (m ((c : Thread nD τ).loc main_arg0))

theorem ends_here (c : Dev nD) (Q : PUnit → sProp 𝕄) : Q ⟨⟩ ⊢ runs (F := F) c (seqs []) Q := by
  show Q ⟨⟩ ⊢ runs c (.ret ⟨⟩) Q
  unfold runs; rw [wp_ret]; exact fupd_intro

/-- One device's kernel, from what the launch gives it to the end. -/
theorem whole_body (c : Dev nD) (Q : PUnit → sProp 𝕄) :
    iprop(bodyPre m ρ c ∗ (bodyPost m ρ c -∗ Q ⟨⟩)) ⊢ runs c (seqs (steps c)) Q := by
  unfold bodyPre Φ₀ start
  iintro ⟨⟨⟨⟨%K, #HK, Hkit⟩, Hl⟩, Ho, ⟨%d0, %g0, %hg0, Hx⟩, ⟨%d1, %g1, %hg1, Hout⟩⟩, HQ⟩
  rw [before_arg] at hg0
  subst hg0
  unfold Dat.owesAt Pipeline.owesWithin
  icases Ho with ⟨%W, %hW, HO⟩
  rw [← List.append_nil (steps c)]
  iapply (steps_does (block m) K c (given m c) rfl g1 [] Q) $$ [Hkit Hl HO Hx Hout]
  · isplitr; · iexact HK
    isplitl [Hkit]; · iexact Hkit
    isplitl [Hl]; · iexact Hl
    isplitl [HO]
    · unfold owing; iexists W; iexact HO
    isplitl [Hx]; · unfold arg; iexact Hx
    iapply (Entails.of_eq (opts_whole c g1)); iexact Hout
  iintro ⟨Hq, Hl, HO, Hx, Hout⟩
  iapply (ends_here c Q)
  iapply HQ
  unfold bodyPost Φ₁
  isplitl [Hq Hl]
  · isplitl [Hq] <;> iassumption
  isplitl [HO]
  · unfold owing
    icases HO with ⟨%W', HO⟩
    unfold Dat.owesAt Pipeline.owesWithin
    iexists W'
    isplitr; · ipureintro; exact fun _ _ => Or.inl trivial
    iexact HO
  isplitl [Hx]
  · iexists _; isplitr; · (ipureintro; rfl)
    unfold arg; iexact Hx
  iexists _; isplitr; · (ipureintro; rfl)
  iapply (Entails.of_eq (opts_whole c (outOf (block m) c)).symm); iexact Hout

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ runs c (cc0_body xM (Memref.isWhole_whole _) oM (Memref.isWhole_whole _) aM (Memref.isWhole_whole _) bM (Memref.isWhole_whole _) cc0_scratch2 cc0_scratch3)
    (fun _ => bodyPost m ρ c)
  rw [body_eq]
  unfold runs
  rw [wp_deviceId]
  iintro H
  iapply (whole_body m ρ c fun _ => bodyPost m ρ c)
  isplitl
  · iexact H
  · iintro H; iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (block m) c)
      ⊢ |={Set.univ}=> iprop(start (block m) c ∗ emp) := by
  iintro ⟨-, Hl, Hc, -, HG⟩
  imodintro
  isplitl
  · iapply (start_of (block m) c)
    isplitl [Hl]; · iexact Hl
    isplitl [Hc] <;> iassumption
  · iempintro

theorem lands_eq (c : Dev nD) : (Pipeline.scopedRest (Ix := Unit) (Name := ℕ) (U := UU) (Lvl := ℕ) (Val := Elt F) cfg0.spec c : sProp 𝕄) = lands c :=
  (scopedRest0_eq c).trans rfl

theorem phi0_intro (c : Dev nD) :
    iprop(start (block m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, lands_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, lands_eq]
  unfold Φ₁
  rw [quiet_eq]
  iintro ⟨⟨H1, H2⟩, H3⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) [0, 1, 2, 3, 4]
    · show (levAts L lv : sProp 𝕄) ⊢ MayWait _ _ () 0
      rw [MayWait_zero]; iintro -; iempintro

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- Every fair execution on the sixteen devices ends, with the arrays at their final contents and every semaphore at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (block m)) (G' := G' (block m)) (u₀ := u₀)
    (hu₀ := by
      unfold u₀
      iintro Hu
      ihave H := (ownU_pair _ _) $$ Hu
      icases H with ⟨HP, HX⟩
      imod (fund_all (block m)) $$ HX with HG
      imodintro
      isplitl [HP] <;> iassumption)
    (hglob := glob (block m))
    (hA := fun _ _ => rfl) (hpf := fun _ k => k.elim0)
    (X := start (block m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array keeps its contents, -/
theorem final_arg (c : Dev nD) : finalA m ρ c (0 : Fin 2) = m ((c : Thread nD τ).loc main_arg0) :=
  (dats (F := F) m ρ 0 c).arrAt_in (0 : Fin 2) rfl _
/-- and the result array ends at the sum. -/
theorem final_out (c : Dev nD) : finalA m ρ c (1 : Fin 2) = outOf (block m) c := by
  have h : (win0_1.blk (0 : Fin 1)).view.read (Elt F) (finalA m ρ c (1 : Fin 2)) = outOf (block m) c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 (off := fun a => win0_1.index t0_0 a * main_v1.ty.shape.size a)
    (funext fun a => by fin_cases a <;> decide) (fun a => by fin_cases a <;> decide) (finalA m ρ c (1 : Fin 2))).symm.trans h

/-- The kernel on the whole mesh, for any float values and from any memory with its counters at zero: it ends, each
    device's result array holds the sum the protocol forms, its argument array what it held, and every counter is zero. -/
theorem run_main : θ_run defs (onTc (τ := τ) (main (F := F))) (s₀ m ρ) (fun r => (∀ c : Dev nD,
    r.2.mem ((c : Thread nD τ).loc main_v1) = outOf (block m) c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (final_out m ρ c), (h.1 c (0 : Fin 2)).trans (final_arg m ρ c)⟩, h.2⟩) (run_all m ρ)

end Cert.AllSum

end
-- ==== Proof.Value.lean ====
/-
The sum the kernel forms, read at the extended reals, is the reference's sum over the whole array.
-/
module

public import proofs.«01_k».proof.Proof.Contents
public import proofs.«01_k».proof.Proof.Gen.ReferenceIdeal
public import Idealize.ShloMosaic.Lib.Layout
public import Idealize.ShloMosaic.Lib.Pointwise
public import Idealize.ShloMosaic.Lib.IdealHost

@[expose] public section

set_option maxRecDepth 16384

noncomputable section

namespace Cert.AllSum

open Cert.KernelIdeal Cert.KernelIdeal.Gen
open Idealize.ShloMosaic

/-! ## Sixteen devices reached from one -/

/-- One of the four devices of a plane: itself or one of the three neighbours on the first two axes. -/
def hop (j : Fin 4) (c : Dev nD) : Dev nD := ![c, nbr c 0, nbr c 1, nbr c 2] j
/-- Itself or the neighbour across `j`. -/
def flip (j : Fin 5) (b : Fin 2) (c : Dev nD) : Dev nD := ![c, nbr c j] b

theorem reach_A : ∀ c : Dev nD, Function.Injective fun p : Fin 2 × Fin 2 × Fin 4 => hop p.2.2 (flip 3 p.2.1 (flip 4 p.1 c)) := by decide +kernel
theorem reach_B : ∀ c : Dev nD, Function.Injective fun p : Fin 2 × Fin 4 × Fin 2 => flip 3 p.2.2 (hop p.2.1 (flip 4 p.1 c)) := by decide +kernel

/-- An injective family of sixteen devices lists all of them. -/
theorem sum_reached {ι M : Type} [Fintype ι] [AddCommMonoid M] {g : ι → Dev nD} (hg : Function.Injective g) (hn : Fintype.card ι = 16) (f : Dev nD → M) :
    ∑ p, f (g p) = ∑ e, f e :=
  Function.Bijective.sum_comp ((Fintype.bijective_iff_injective_and_card g).mpr ⟨hg, hn⟩) f

variable (X : Dev nD → Blk Ideal)

/-- The block a device ends with on the left half is the sum over all devices, whichever device it is; -/
theorem sum_A (c : Dev nD) (i : OIdx) : (A3 X c i : EReal) = ∑ e : Dev nD, (X e i : EReal) := by
  rw [← sum_reached (reach_A c) rfl fun e => (X e i : EReal), Fintype.sum_prod_type]
  simp only [Fintype.sum_prod_type, Fin.sum_univ_two, Fin.sum_univ_four]
  rfl
/-- and so on the right half. -/
theorem sum_B (c : Dev nD) (i : OIdx) : (B3 X c i : EReal) = ∑ e : Dev nD, (X e i : EReal) := by
  rw [← sum_reached (reach_B c) rfl fun e => (X e i : EReal), Fintype.sum_prod_type]
  simp only [Fintype.sum_prod_type, Fin.sum_univ_two, Fin.sum_univ_four]
  rfl
/-- Every element every device ends with is the sum over all devices. -/
theorem sum_out (c : Dev nD) (i : OIdx) : (outOf X c i : EReal) = ∑ e : Dev nD, (X e i : EReal) := by
  unfold outOf A5 A4 B5 B4
  split
  · exact sum_A X _ i
  · exact sum_B X _ i

/-! ## The blocks as parts of the whole array -/

/-- The whole array's shape. -/
abbrev Whole : Shape := ⟨5, ![2, 2, 4, 1024, 1024]⟩
/-- Where the element `i` of the block of `e` is in the whole array. -/
def place (i : OIdx) (e : Dev nD) : Whole.Idx :=
  ix5 (⟨e.val / 8, by have : e.val < 16 := e.isLt; omega⟩ : Fin 2) (⟨e.val / 4 % 2, by omega⟩ : Fin 2) (⟨e.val % 4, by omega⟩ : Fin 4) (i 0 : Fin 1024) (i 1 : Fin 1024)

theorem place_injective (i : OIdx) : Function.Injective (place i) := fun e e' h => by
  have h0 : e.val / 8 = e'.val / 8 := congrArg Fin.val (congrFun h 0)
  have h1 : e.val / 4 % 2 = e'.val / 4 % 2 := congrArg Fin.val (congrFun h 1)
  have h2 : e.val % 4 = e'.val % 4 := congrArg Fin.val (congrFun h 2)
  exact Fin.ext (by omega)

/-- The place of `e` on the mesh. -/
theorem mesh_vals : ∀ e : Dev nD, Layout.meshLin [2, 2, 4] e.val [0] = e.val / 8 ∧ Layout.meshLin [2, 2, 4] e.val [1] = e.val / 4 % 2
    ∧ Layout.meshLin [2, 2, 4] e.val [2] = e.val % 4 := by decide +kernel
/-- The block of `e`, without its unit axes, at `i`. -/
theorem block_part (e : Dev nD) (i : OIdx) (w : Whole.Idx → EReal) :
    k0_pay1 (F := Ideal) (Layout.blockN ⟨5, ![1, 1, 1, 1024, 1024]⟩ Whole (Layout.meshBlock [2, 2, 4] ![[0], [1], [2], [], []] e) w) i = w (place i e) := by
  unfold k0_pay1
  pointwise
  rw [Layout.blockN_apply]
  obtain ⟨h0, h1, h2⟩ := mesh_vals e
  refine congrArg w (funext fun a => Fin.ext ?_)
  rw [Layout.TilesN.idx_val]
  match a with
  | ⟨0, _⟩ => show Layout.meshLin [2, 2, 4] e.val [0] * 1 + 0 = e.val / 8; omega
  | ⟨1, _⟩ => show Layout.meshLin [2, 2, 4] e.val [1] * 1 + 0 = e.val / 4 % 2; omega
  | ⟨2, _⟩ => show Layout.meshLin [2, 2, 4] e.val [2] * 1 + 0 = e.val % 4; omega
  | ⟨3, _⟩ => show 0 * 1024 + (i 0).val = (i 0).val; omega
  | ⟨4, _⟩ => show 0 * 1024 + (i 1).val = (i 1).val; omega

/-- The indices the reference adds up for one result element are that element's places on the sixteen devices. -/
theorem fiber (h : Whole.ReducesTo [0, 1, 2] S1024x1024) (i : OIdx) (x : Whole.Idx) : h.drop x = i ↔ ∃ e, place i e = x := by
  constructor
  · rintro rfl
    have l0 : (x 0).val < 2 := (x 0).isLt
    have l1 : (x 1).val < 2 := (x 1).isLt
    have l2 : (x 2).val < 4 := (x 2).isLt
    refine ⟨⟨8 * (x 0).val + 4 * (x 1).val + (x 2).val, by show _ < 16; omega⟩, funext fun a => Fin.ext ?_⟩
    match a with
    | ⟨0, _⟩ => show (8 * (x 0).val + 4 * (x 1).val + (x 2).val) / 8 = (x 0).val; omega
    | ⟨1, _⟩ => show (8 * (x 0).val + 4 * (x 1).val + (x 2).val) / 4 % 2 = (x 1).val; omega
    | ⟨2, _⟩ => show (8 * (x 0).val + 4 * (x 1).val + (x 2).val) % 4 = (x 2).val; omega
    | ⟨3, _⟩ => rfl
    | ⟨4, _⟩ => rfl
  · rintro ⟨e, rfl⟩
    exact funext fun a => Fin.ext (by
      match a with
      | ⟨0, _⟩ => rfl
      | ⟨1, _⟩ => rfl)

/-- The reference, read at one result element: the sum over the sixteen blocks. -/
theorem reference_sum (hb : FTy.bits .bf16 < FTy.bits .f32) (h : Whole.ReducesTo [0, 1, 2] S1024x1024) (hu : 0 < (⟨0, ![]⟩ : Shape).numel)
    (w : FVec Ideal Whole .bf16) (i : OIdx) :
    (truncf (F := Ideal) .bf16 (Host.reduceAdd (F := Ideal) (extf .f32 w hb) (constant ⟨0, ![]⟩ .f32 0x00000000#32) h hu) hb i : EReal) = ∑ e : Dev nD, (w (place i e) : EReal) := by
  show Ideal.ofBits .f32 0x00000000#32 + ∑ x ∈ Finset.univ.filter (fun x => h.drop x = i), (w x : EReal) = _
  rw [Ideal.ofBits_zero_f32, zero_add]
  exact Finset.sum_filter_eq_sum_of_fiber _ (place i) (place_injective i) (fiber h i) w

end Cert.AllSum

end
-- ==== Proof.lean ====
/-
The claims, assembled: the kernel's run (Run.lean), the reference's run (generated), and their values (Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

set_option smartUnfolding false in
/-- The kernel at bit patterns: its run ends with the argument unchanged and every semaphore at zero. The program's text
    is the idealized one's, so its run is that one's, read at bit patterns. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0) :=
    (θ_run Cert.KernelIdeal.defs _ _).mono (fun _ h => ⟨fun c => (h.1 c).2, h.2⟩) (Cert.AllSum.run_main (F := Bits) m ρ)
  exact h

/-- The same at the extended reals. -/
theorem frame_ideal : Cert.quiescent_KernelIdeal := fun m ρ _ =>
  (θ_run Cert.KernelIdeal.defs _ _).mono (fun _ h => ⟨fun c => (h.1 c).2, h.2⟩) (Cert.AllSum.run_main (F := Ideal) m ρ)

/-- The reference ends with its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of one whole array, every device of the kernel ends with the array the reference computes. -/
theorem algebraic : Cert.algebraic_KernelIdeal_ReferenceIdeal := fun m ρ m' ρ' _ hin => by
  refine ⟨_, (θ_run Cert.KernelIdeal.defs _ _).mono (fun _ h c => ⟨(h.1 c).1.trans ?_, (h.1 c).2⟩) (Cert.AllSum.run_main (F := Ideal) m ρ),
    (θ_run Cert.ReferenceIdeal.defs _ _).mono (fun _ h => h 0) (Cert.ReferenceIdeal.Value.run (F := Ideal) m' ρ')⟩
  funext i
  refine (Cert.AllSum.sum_out _ c i).trans ?_
  refine (Finset.sum_congr rfl fun e _ => ?_).trans (Cert.AllSum.reference_sum _ _ _ _ i).symm
  refine (congrArg (fun w => Cert.KernelIdeal.Gen.k0_pay1 (F := Ideal) w i) (hin e)).trans ?_
  exact Cert.AllSum.block_part e i _

theorem claim : Cert.Claim :=
  ⟨Cert.Kernel.Gen.facts, Cert.KernelIdeal.Gen.facts, Cert.ReferenceIdeal.Gen.facts, frame_kernel, frame_ideal, frame_reference, trivial, algebraic⟩

end Cert.Proof

end
